-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![512, 512]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![256, 512]⟩ ⟨2, ![512, 512]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S8 : Shape := ⟨1, ![8]⟩
abbrev S_ : Shape := ⟨0, ![]⟩
abbrev S32x256 : Shape := ⟨2, ![32, 256]⟩
abbrev S32x512 : Shape := ⟨2, ![32, 512]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_off1 (d0 : Dev nD) (c0_i32_13 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v20 : BitVec 32 := Scalar.addi v8 c0_i32_13
  let v21 : Index := Scalar.indexCast v20
  let c0 : Index := 0#32
  ![v21.toNat, 0]
def k0_dev3 (d0 : Dev nD) : Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_21 : BitVec 32 := 2#32
  let v31 : BitVec 32 := Scalar.muli v6 c2_i32_21
  let v32 : BitVec 32 := Scalar.addi c0_i32_22 v31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v33 : BitVec 32 := Scalar.muli v5 c1_i32_23
  let v34 : BitVec 32 := Scalar.addi v32 v33
  v34.toNat
def k0_dev4 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v52 : BitVec 32 := Scalar.muli v6 c2_i32_35
  let v53 : BitVec 32 := Scalar.addi c0_i32_36 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v54 : BitVec 32 := Scalar.muli v5 c1_i32_37
  let v55 : BitVec 32 := Scalar.addi v53 v54
  v55.toNat
def k0_dev5 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v73 : BitVec 32 := Scalar.muli v6 c2_i32_49
  let v74 : BitVec 32 := Scalar.addi c0_i32_50 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v75 : BitVec 32 := Scalar.muli v5 c1_i32_51
  let v76 : BitVec 32 := Scalar.addi v74 v75
  v76.toNat
def k0_dev6 (d0 : Dev nD) : Nat :=
  let c0_i32_63 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_62 : BitVec 32 := 2#32
  let v94 : BitVec 32 := Scalar.muli v6 c2_i32_62
  let v95 : BitVec 32 := Scalar.addi c0_i32_63 v94
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_64 : BitVec 32 := 1#32
  let v96 : BitVec 32 := Scalar.muli v5 c1_i32_64
  let v97 : BitVec 32 := Scalar.addi v95 v96
  v97.toNat
def k0_dev7 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v115 : BitVec 32 := Scalar.muli v6 c2_i32_75
  let v116 : BitVec 32 := Scalar.addi c0_i32_76 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v117 : BitVec 32 := Scalar.muli v5 c1_i32_77
  let v118 : BitVec 32 := Scalar.addi v116 v117
  v118.toNat
def k0_dev8 (d0 : Dev nD) : Nat :=
  let c0_i32_89 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_88 : BitVec 32 := 2#32
  let v136 : BitVec 32 := Scalar.muli v6 c2_i32_88
  let v137 : BitVec 32 := Scalar.addi c0_i32_89 v136
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_90 : BitVec 32 := 1#32
  let v138 : BitVec 32 := Scalar.muli v5 c1_i32_90
  let v139 : BitVec 32 := Scalar.addi v137 v138
  v139.toNat
def k0_dev9 (d0 : Dev nD) : Nat :=
  let c0_i32_102 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_101 : BitVec 32 := 2#32
  let v157 : BitVec 32 := Scalar.muli v6 c2_i32_101
  let v158 : BitVec 32 := Scalar.addi c0_i32_102 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_103 : BitVec 32 := 1#32
  let v159 : BitVec 32 := Scalar.muli v5 c1_i32_103
  let v160 : BitVec 32 := Scalar.addi v158 v159
  v160.toNat
def k0_dev10 (d0 : Dev nD) : Nat :=
  let c0_i32_115 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_114 : BitVec 32 := 2#32
  let v178 : BitVec 32 := Scalar.muli v6 c2_i32_114
  let v179 : BitVec 32 := Scalar.addi c0_i32_115 v178
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v180 : BitVec 32 := Scalar.muli v5 c1_i32_116
  let v181 : BitVec 32 := Scalar.addi v179 v180
  v181.toNat
def k0_dev11 (d0 : Dev nD) : Nat :=
  let c0_i32_140 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_139 : BitVec 32 := 2#32
  let v206 : BitVec 32 := Scalar.muli v2 c2_i32_139
  let v207 : BitVec 32 := Scalar.addi c0_i32_140 v206
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_141 : BitVec 32 := 1#32
  let v208 : BitVec 32 := Scalar.muli v7 c1_i32_141
  let v209 : BitVec 32 := Scalar.addi v207 v208
  v209.toNat
def k0_off2 (d0 : Dev nD) (c0_i32_121 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v188 : BitVec 32 := Scalar.addi v8 c0_i32_121
  let v216 : Index := Scalar.indexCast v188
  let c0_146 : Index := 0#32
  ![v216.toNat, 0]
def k0_dev12 (d0 : Dev nD) : Nat :=
  let c0_i32_173 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_172 : BitVec 32 := 2#32
  let v240 : BitVec 32 := Scalar.muli v2 c2_i32_172
  let v241 : BitVec 32 := Scalar.addi c0_i32_173 v240
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_174 : BitVec 32 := 1#32
  let v242 : BitVec 32 := Scalar.muli v7 c1_i32_174
  let v243 : BitVec 32 := Scalar.addi v241 v242
  v243.toNat
def k0_dev13 (d0 : Dev nD) : Nat :=
  let c0_i32_206 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_205 : BitVec 32 := 2#32
  let v274 : BitVec 32 := Scalar.muli v2 c2_i32_205
  let v275 : BitVec 32 := Scalar.addi c0_i32_206 v274
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_207 : BitVec 32 := 1#32
  let v276 : BitVec 32 := Scalar.muli v7 c1_i32_207
  let v277 : BitVec 32 := Scalar.addi v275 v276
  v277.toNat
def k0_dev14 (d0 : Dev nD) : Nat :=
  let c0_i32_239 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_238 : BitVec 32 := 2#32
  let v308 : BitVec 32 := Scalar.muli v2 c2_i32_238
  let v309 : BitVec 32 := Scalar.addi c0_i32_239 v308
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_240 : BitVec 32 := 1#32
  let v310 : BitVec 32 := Scalar.muli v7 c1_i32_240
  let v311 : BitVec 32 := Scalar.addi v309 v310
  v311.toNat
def k0_dev15 (d0 : Dev nD) : Nat :=
  let c0_i32_272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_271 : BitVec 32 := 2#32
  let v342 : BitVec 32 := Scalar.muli v2 c2_i32_271
  let v343 : BitVec 32 := Scalar.addi c0_i32_272 v342
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_273 : BitVec 32 := 1#32
  let v344 : BitVec 32 := Scalar.muli v7 c1_i32_273
  let v345 : BitVec 32 := Scalar.addi v343 v344
  v345.toNat
def k0_dev16 (d0 : Dev nD) : Nat :=
  let c0_i32_305 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_304 : BitVec 32 := 2#32
  let v376 : BitVec 32 := Scalar.muli v2 c2_i32_304
  let v377 : BitVec 32 := Scalar.addi c0_i32_305 v376
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_306 : BitVec 32 := 1#32
  let v378 : BitVec 32 := Scalar.muli v7 c1_i32_306
  let v379 : BitVec 32 := Scalar.addi v377 v378
  v379.toNat
def k0_dev17 (d0 : Dev nD) : Nat :=
  let c0_i32_338 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_337 : BitVec 32 := 2#32
  let v410 : BitVec 32 := Scalar.muli v2 c2_i32_337
  let v411 : BitVec 32 := Scalar.addi c0_i32_338 v410
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_339 : BitVec 32 := 1#32
  let v412 : BitVec 32 := Scalar.muli v7 c1_i32_339
  let v413 : BitVec 32 := Scalar.addi v411 v412
  v413.toNat
def k0_dev18 (d0 : Dev nD) : Nat :=
  let c0_i32_371 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_370 : BitVec 32 := 2#32
  let v444 : BitVec 32 := Scalar.muli v2 c2_i32_370
  let v445 : BitVec 32 := Scalar.addi c0_i32_371 v444
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_372 : BitVec 32 := 1#32
  let v446 : BitVec 32 := Scalar.muli v7 c1_i32_372
  let v447 : BitVec 32 := Scalar.addi v445 v446
  v447.toNat
def k0_off3 (d0 : Dev nD) (c0_i32_396 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c256_i32_5 : BitVec 32 := 256#32
  let v10 : BitVec 32 := Scalar.muli v9 c256_i32_5
  let v470 : BitVec 32 := Scalar.addi v10 c0_i32_396
  let v471 : Index := Scalar.indexCast v470
  let c0_397 : Index := 0#32
  ![v471.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
  The kernel's body, one device's program, written over its eight row chunks: `chunk r` is rows `32 r … 32 r + 31` of a
  256-row buffer. Each chunk passes through four steps — its product with the right operand is stored and sent across the
  mesh axis `x`; the partial sum that arrives from the other device of that axis is added; the sum is sent across the mesh
  axis `y`; the sum that arrives from the other device of that axis is stored —, each step one program here with the
  chunk's number a variable, and the printed body is their sequence (`body_eq`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MeshMatmul

open Cert.KernelIdeal Cert.KernelIdeal.Gen
open Idealize.ShloMosaic Idealize.ShloMosaic.TcCoe Idealize.SL.Sem

variable {F : FTy → Type} [FloatOps F]

/-! ## The chunks -/

/-- A chunk's rows lie in the buffer. -/
theorem chunk_inb (r : Fin 8) : ∀ a, (![32 * r.val, 0] : Fin 2 → Nat) a + S32x512.size a ≤ S256x512.size a := by
  revert r; decide

/-- Chunk `r` of a 256-row buffer: rows `32 r … 32 r + 31`, all columns. -/
abbrev rC (r : Fin 8) : Rect S256x512 := Rect.unit (s := S256x512) ![32 * r.val, 0] S32x512.size (chunk_inb r)

/-- A chunk's rows are packed rows of the two-byte element type, -/
theorem chunk_packed (r : Fin 8) : (rC r).PackedRows (EltTy.packing .bf16) := by
  fin_cases r
  · exact packedbf16_S256x512_S32x512_0_0
  · exact packedbf16_S256x512_S32x512_32_0
  · exact packedbf16_S256x512_S32x512_64_0
  · exact packedbf16_S256x512_S32x512_96_0
  · exact packedbf16_S256x512_S32x512_128_0
  · exact packedbf16_S256x512_S32x512_160_0
  · exact packedbf16_S256x512_S32x512_192_0
  · exact packedbf16_S256x512_S32x512_224_0

/-- and fill whole words. -/
theorem chunk_words (r : Fin 8) : (rC r).WholeWords (EltTy.packing .bf16) := by
  fin_cases r
  · exact wordsbf16_S256x512_S32x512_0_0
  · exact wordsbf16_S256x512_S32x512_32_0
  · exact wordsbf16_S256x512_S32x512_64_0
  · exact wordsbf16_S256x512_S32x512_96_0
  · exact wordsbf16_S256x512_S32x512_128_0
  · exact wordsbf16_S256x512_S32x512_160_0
  · exact wordsbf16_S256x512_S32x512_192_0
  · exact wordsbf16_S256x512_S32x512_224_0

/-! ## The buffers and semaphores -/

/-- The staged left operand, right operand and result; -/
abbrev aM : Memref sig .tc .vmem S512x256 .f32 := Memref.whole cc0_stg0_0
abbrev bM : Memref sig .tc .vmem S256x512 .f32 := Memref.whole cc0_stg1_0
abbrev oM : Memref sig .tc .vmem S512x512 .f32 := Memref.whole cc0_stg2_0
/-- the buffer of products, the buffer the products of the other device of the axis `x` arrive in, the buffer of sums,
    the buffer the sums of the other device of the axis `y` arrive in. -/
abbrev pM : Memref sig .tc .vmem S256x512 .bf16 := Memref.whole cc0_scratch0
abbrev xM : Memref sig .tc .vmem S256x512 .bf16 := Memref.whole cc0_scratch1
abbrev sM : Memref sig .tc .vmem S256x512 .bf16 := Memref.whole cc0_scratch2
abbrev yM : Memref sig .tc .vmem S256x512 .bf16 := Memref.whole cc0_scratch3

/-- Chunk `r` of one of the four 256-row buffers, as a memref of its own. -/
abbrev ch (m : Memref sig .tc .vmem S256x512 .bf16) (r : Fin 8) : Memref sig .tc .vmem S32x512 .bf16 :=
  m.slice (rC r) (fun _ => rfl)

/-- The barrier semaphore, -/
abbrev barS : Sem sig := (SemArray.scalar (sig.barrier 0 rfl) : Sems sig S_).sem

/-- and the thirty-two transfer semaphores: kind 0 the departures across `x`, 1 the arrivals across `x`, 2 the departures
    across `y`, 3 the arrivals across `y`; one per chunk. -/
abbrev dS (k : Fin 4) (r : Fin 8) : DmaSem sig := (⟨3 + 8 * k.val + r.val, by have := k.isLt; have := r.isLt; omega⟩ : Fin 35)

/-! ## The steps -/

/-- A fragment of one device's kernel program. -/
abbrev Frag (F : FTy → Type) [FloatOps F] := Prog (TpuEff nD τ sig (Elt F) Λ₀ .tc) PUnit

/-- Chunk `r`'s product: 32 rows of the left operand (of the half of its rows that is the device's along `y`) by the right
    operand, into chunk `r` of the products. -/
def dotStep (d : Dev nD) (r : Fin 8) : Frag F := do
  let a : Vec F S32x256 .f32 ← Prog.lift (.load aM (Rect.unit (s := S512x256) (k0_off1 d (BitVec.ofNat 32 (32 * r.val))) S32x256.size (k0_off1_inb d r)).toLoadRect (View.loadsAt_vmem h_S32x256))
  let b : Vec F S256x512 .f32 ← Prog.lift (.load bM (Rect.unit (s := S256x512) ![0, 0] S256x512.size inb_S256x512_S256x512_0_0).toLoadRect (View.loadsAt_vmem h_S256x512))
  let _ : Vec F S32x512 .bf16 ← Prog.lift (.load pM (rC r).toLoadRect (View.loadsAt_vmem h_S32x512))
  Prog.lift (.store pM (rC r) (k0_pay1 a b) Finset.univ (View.stores_vmem h_S32x512 ((Memref.isWhole_whole _).storeExact_slice rfl _ (chunk_packed r)) (fun _ => rfl)) (.inl rfl))

/-- Chunk `r` of the products sent into chunk `r` of the arrivals of device `n`. -/
def xSend (n : Dev nD) (r : Fin 8) : Frag F :=
  Prog.lift (.enqueueDma (ch pM r) (.remote (Dev.tc n) (ch xM r) (.dma (dS 0 r))) (.dma (dS 1 r))
    ((Memref.isWhole_whole _).wordExact_slice rfl _ (chunk_words r)) ((Memref.isWhole_whole _).wordExact_slice rfl _ (chunk_words r)) ⟨⟨rfl, Or.inl rfl⟩, trivial⟩)

/-- Chunk `r` of the sums sent into chunk `r` of the second arrivals of device `n`. -/
def ySend (n : Dev nD) (r : Fin 8) : Frag F :=
  Prog.lift (.enqueueDma (ch sM r) (.remote (Dev.tc n) (ch yM r) (.dma (dS 2 r))) (.dma (dS 3 r))
    ((Memref.isWhole_whole _).wordExact_slice rfl _ (chunk_words r)) ((Memref.isWhole_whole _).wordExact_slice rfl _ (chunk_words r)) ⟨⟨rfl, Or.inl rfl⟩, trivial⟩)

/-- The wait for the arrival of chunk `r` across `x`, and for its departure; -/
def xArrive (r : Fin 8) : Frag F :=
  Prog.lift (.waitDma2 (dS 1 r) (ch pM r) (ch xM r)
    ((Memref.isWhole_whole _).wordExact_slice rfl _ (chunk_words r)) ((Memref.isWhole_whole _).wordExact_slice rfl _ (chunk_words r)))
def xDepart (r : Fin 8) : Frag F :=
  Prog.lift (.waitDma2 (dS 0 r) (ch xM r) (ch pM r)
    ((Memref.isWhole_whole _).wordExact_slice rfl _ (chunk_words r)) ((Memref.isWhole_whole _).wordExact_slice rfl _ (chunk_words r)))
/-- the same across `y`. -/
def yArrive (r : Fin 8) : Frag F :=
  Prog.lift (.waitDma2 (dS 3 r) (ch sM r) (ch yM r)
    ((Memref.isWhole_whole _).wordExact_slice rfl _ (chunk_words r)) ((Memref.isWhole_whole _).wordExact_slice rfl _ (chunk_words r)))
def yDepart (r : Fin 8) : Frag F :=
  Prog.lift (.waitDma2 (dS 2 r) (ch yM r) (ch sM r)
    ((Memref.isWhole_whole _).wordExact_slice rfl _ (chunk_words r)) ((Memref.isWhole_whole _).wordExact_slice rfl _ (chunk_words r)))

/-- Chunk `r` of the result, in the half of its rows that is the device's along `y`, and in the other half. -/
abbrev rOwn (d : Dev nD) (r : Fin 8) : Rect S512x512 :=
  Rect.unit (s := S512x512) (k0_off2 d (BitVec.ofNat 32 (32 * r.val))) S32x512.size (k0_off2_inb d r)
abbrev rOther (d : Dev nD) (r : Fin 8) : Rect S512x512 :=
  Rect.unit (s := S512x512) (k0_off3 d (BitVec.ofNat 32 (32 * r.val))) S32x512.size (k0_off3_inb d r)

/-- Chunk `r`'s sum: the device's product and the arrived one added, rounded into the sums and sent across `y` to device
    `n`, and stored unrounded in the device's half of the result. -/
def sumStep (d n : Dev nD) (r : Fin 8) : Frag F := do
  xArrive r
  let p : Vec F S32x512 .bf16 ← Prog.lift (.load pM (rC r).toLoadRect (View.loadsAt_vmem h_S32x512))
  let q : Vec F S32x512 .bf16 ← Prog.lift (.load xM (rC r).toLoadRect (View.loadsAt_vmem h_S32x512))
  let _ : Vec F S32x512 .bf16 ← Prog.lift (.load sM (rC r).toLoadRect (View.loadsAt_vmem h_S32x512))
  Prog.lift (.store sM (rC r) (k0_pay10 p q) Finset.univ (View.stores_vmem h_S32x512 ((Memref.isWhole_whole _).storeExact_slice rfl _ (chunk_packed r)) (fun _ => rfl)) (.inl rfl))
  ySend n r
  let _ : Vec F S32x512 .f32 ← Prog.lift (.load oM (rOwn d r).toLoadRect (View.loadsAt_vmem h_S32x512))
  Prog.lift (.store oM (rOwn d r) (k0_pay9 p q) Finset.univ (View.stores_vmem_bits_univ h_S32x512 rfl) (.inl rfl))
  xDepart r

/-- Chunk `r` of the sums that arrive across `y`, stored in the other half of the result. -/
def copyStep (d : Dev nD) (r : Fin 8) : Frag F := do
  yArrive r
  let q : Vec F S32x512 .bf16 ← Prog.lift (.load yM (rC r).toLoadRect (View.loadsAt_vmem h_S32x512))
  let _ : Vec F S32x512 .f32 ← Prog.lift (.load oM (rOther d r).toLoadRect (View.loadsAt_vmem h_S32x512))
  Prog.lift (.store oM (rOther d r) (k0_pay25 q) Finset.univ (View.stores_vmem_bits_univ h_S32x512 rfl) (.inl rfl))
  yDepart r

/-- A step done for each chunk of a list, in order. -/
def each (f : Fin 8 → Frag F) : List (Fin 8) → Frag F
  | [] => pure ⟨⟩
  | r :: rs => f r >>= fun _ => each f rs

/-- One device's program. -/
def body : Frag F := do
  let d : Dev nD ← Prog.lift .deviceId
  semSignalWord (⟨k0_dev1 d, k0_dev1_lt d⟩ : Dev nD) barS 1#32
  semSignalWord (⟨k0_dev2 d, k0_dev2_lt d⟩ : Dev nD) barS 1#32
  dotStep d 0
  semWaitWord barS 2#32
  xSend ⟨k0_dev3 d, k0_dev3_lt d⟩ 0
  each (fun r => dotStep d r >>= fun _ => xSend ⟨k0_dev3 d, k0_dev3_lt d⟩ r) [1, 2, 3, 4, 5, 6, 7]
  each (sumStep d ⟨k0_dev11 d, k0_dev11_lt d⟩) [0, 1, 2, 3, 4, 5, 6, 7]
  each (copyStep d) [0, 1, 2, 3, 4, 5, 6, 7]

set_option maxRecDepth 65536 in
/-- The printed body, on the buffers and semaphores the kernel is called with, is `body`. -/
theorem body_eq :
    cc0_body (F := F) aM (Memref.isWhole_whole _) bM (Memref.isWhole_whole _) oM (Memref.isWhole_whole _) pM (Memref.isWhole_whole _)
      xM (Memref.isWhole_whole _) sM (Memref.isWhole_whole _) yM (Memref.isWhole_whole _) cc0_scratch4 cc0_scratch5 cc0_scratch6 cc0_scratch7
      = body := by
  chain_rfl

end Cert.MeshMatmul
-- ==== Proof.Protocol.lean ====
/-
  What the four devices say to each other, and what they compute.

  The mesh is two by two. Each device exchanges with two others: `xp c`, the other device of its axis `x`, and `yp c`, the
  other device of its axis `y`. Before any transfer each device signals the barrier semaphore of both and waits for two
  units on its own: with a device's signal goes the right to write its landing buffer — the first arrivals to `xp c`, the
  second arrivals to `yp c`. Every transfer of a chunk completes on a semaphore of its own at either end: at the sender
  it gives back what was lent of the source, at the receiver it hands over the chunk at the sender's values.

  `prodV c r` is chunk `r` of device `c`'s products, `sumV c r` chunk `r` of its rounded sums, `ownV c r` chunk `r` of its
  unrounded sums; all for any float values.
-/
module

public import proofs.«01_k».proof.Proof.Steps
public import Idealize.ShloMosaic.Lib.MemrefSat

@[expose] public section

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline library's rounds (duties `Unit`) and the devices' own (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The two peers of a device -/

set_option backward.proofsInPublic true in
/-- The device that differs from `c` in the coordinate along `x` only, -/
def xp (c : Dev nD) : Dev nD := ⟨((c.val % 2) + 2) - 2 * (c.val / 2), by have := c.isLt; simp only [nD] at *; omega⟩
set_option backward.proofsInPublic true in
/-- and the one that differs in the coordinate along `y` only. -/
def yp (c : Dev nD) : Dev nD := ⟨(2 * (c.val / 2) + 1) - (c.val % 2), by have := c.isLt; simp only [nD] at *; omega⟩

theorem xp_xp (c : Dev nD) : xp (xp c) = c := by revert c; decide
theorem yp_yp (c : Dev nD) : yp (yp c) = c := by revert c; decide

/-- The device numbers the kernel computes are the peers'. -/
theorem dev1_eq (c : Dev nD) : (⟨k0_dev1 c, k0_dev1_lt c⟩ : Dev nD) = xp c := Fin.ext (k0_dev1_eq c)
theorem dev2_eq (c : Dev nD) : (⟨k0_dev2 c, k0_dev2_lt c⟩ : Dev nD) = yp c := Fin.ext (k0_dev2_eq c)
theorem dev3_eq (c : Dev nD) : (⟨k0_dev3 c, k0_dev3_lt c⟩ : Dev nD) = xp c := Fin.ext (k0_dev3_eq c)
theorem dev11_eq (c : Dev nD) : (⟨k0_dev11 c, k0_dev11_lt c⟩ : Dev nD) = yp c := Fin.ext (k0_dev11_eq c)

/-- Exchanging along an axis permutes the devices. -/
def xSwap : Dev nD ≃ Dev nD := ⟨xp, xp, xp_xp, xp_xp⟩
def ySwap : Dev nD ≃ Dev nD := ⟨yp, yp, yp_yp, yp_yp⟩

/-! ## The values -/

/-- Device `c`'s staged left and right operands, -/
def aStg (c : Dev nD) : Vec F S512x256 .f32 := (win0_0.blk (0 : Fin 1)).view.read (Elt F) (m ((c : Thread nD τ).loc main_arg0))
def bStg (c : Dev nD) : Vec F S256x512 .f32 := (win0_1.blk (0 : Fin 1)).view.read (Elt F) (m ((c : Thread nD τ).loc main_arg1))

/-- the rows of the left operand chunk `r` of its products takes, -/
abbrev rA (d : Dev nD) (r : Fin 8) : Rect S512x256 :=
  Rect.unit (s := S512x256) (k0_off1 d (BitVec.ofNat 32 (32 * r.val))) S32x256.size (k0_off1_inb d r)
def aRows (c : Dev nD) (r : Fin 8) : Vec F S32x256 .f32 := fun j => aStg m c ((rA c r).emb j)

/-- chunk `r` of its products, of its rounded sums, and of its unrounded sums. -/
def prodV (c : Dev nD) (r : Fin 8) : Vec F S32x512 .bf16 := k0_pay1 (aRows m c r) (bStg m c)
def sumV (c : Dev nD) (r : Fin 8) : Vec F S32x512 .bf16 := k0_pay10 (prodV m c r) (prodV m (xp c) r)
def ownV (c : Dev nD) (r : Fin 8) : Vec F S32x512 .f32 := k0_pay9 (prodV m c r) (prodV m (xp c) r)
/-- What it stores of the other half of the result: the rounded sums of `yp c`, widened. -/
def otherV (c : Dev nD) (r : Fin 8) : Vec F S32x512 .f32 := k0_pay25 (sumV m (yp c) r)

/-! ## The semaphore cells -/

abbrev barCell (c : Dev nD) : GSem nD τ sig := ((c : Thread nD τ), .reg barS)
abbrev dCell (c : Dev nD) (k : Fin 4) (r : Fin 8) : GSem nD τ sig := ((c : Thread nD τ), .dma (dS k r))

/-- The kind of a transfer semaphore and its chunk. -/
def kOf (q : DmaSem sig) : Fin 4 := ⟨(q.val - 3) / 8 % 4, Nat.mod_lt _ (by decide)⟩
def rOf (q : DmaSem sig) : Fin 8 := ⟨(q.val - 3) % 8, Nat.mod_lt _ (by decide)⟩
theorem kOf_dS (k : Fin 4) (r : Fin 8) : kOf (dS k r) = k := by revert k r; decide
theorem rOf_dS (k : Fin 4) (r : Fin 8) : rOf (dS k r) = r := by revert k r; decide
theorem dS_ge (k : Fin 4) (r : Fin 8) : 3 ≤ (dS k r).val := by revert k r; decide

/-- The units a chunk's transfer completes with. -/
abbrev N : ℕ := (ch xM 0).view.dmaCredit
theorem N_pos : 0 < N := View.dmaCredit_pos _ (by decide)

/-! ## The schedule -/

/-- Device `d` holds chunk `r` of a buffer whole, at some values. -/
def some32 (d : Dev nD) (b : Memref sig .tc .vmem S256x512 .bf16) (r : Fin 8) : sProp 𝕄 :=
  iprop(∃ X : Vec F S32x512 .bf16, owns (d : Thread nD τ) (ch b r) fullShare X)

instance some32_storable (d : Dev nD) (b) (r : Fin 8) : BI.Storable (upEmb : UEmb _ 𝕄) (some32 (F := F) d b r) := by
  unfold some32; infer_instance

/-- What the signal of `xp c` (resp. `yp c`) hands to device `c`: its first (second) arrivals' buffer, chunk by chunk. -/
def xGift (c : Dev nD) : sProp 𝕄 := bigSep Finset.univ fun r => some32 (F := F) (xp c) xM r
def yGift (c : Dev nD) : sProp 𝕄 := bigSep Finset.univ fun r => some32 (F := F) (yp c) yM r

/-- What a completed transfer hands to the device that waits for it: at a departure across `x`, the half share of the
    products lent to it; at an arrival, the landed chunk at the other device's values; at a departure across `y`, the chunk
    of the sums. -/
def dPay (k : Fin 4) (r : Fin 8) (c : Dev nD) : sProp 𝕄 := match k with
  | 0 => owns (c : Thread nD τ) (ch pM r) fullShare.left (prodV m c r)
  | 1 => owns (c : Thread nD τ) (ch xM r) fullShare (prodV m (xp c) r)
  | 2 => owns (c : Thread nD τ) (ch sM r) fullShare (sumV m c r)
  | 3 => owns (c : Thread nD τ) (ch yM r) fullShare (sumV m (yp c) r)

/-- One round. A barrier cell has two duties of one unit, `false` paid by `xp c` and `true` by `yp c`; a transfer cell the
    duty `false` of a chunk's units. -/
def sched : Rounds.Schedule (GSem nD τ sig) Bool 𝕄 where
  duties g r := if r = 0 ∧ g.1.2 = .tc then (match g.2 with
    | .reg s => if s = barS then Finset.univ else ∅
    | .dma q => if 3 ≤ q.val then {false} else ∅) else ∅
  unitless _ := False
  amount g _ _ := match g.2 with
    | .reg _ => 1
    | .dma _ => N
  payload g _ d := match g.2 with
    | .reg _ => if d then yGift g.1.1 else xGift g.1.1
    | .dma q => dPay m (kOf q) (rOf q) g.1.1
  amount_pos g _ _ _ := by
    rcases g with ⟨_, _ | _⟩
    · exact Nat.one_pos
    · exact N_pos

instance dPay_storable (k : Fin 4) (r : Fin 8) (c : Dev nD) : BI.Storable (upEmb : UEmb _ 𝕄) (dPay m k r c) := by
  unfold dPay; split <;> infer_instance

instance sched_payload_storable (g : GSem nD τ sig) (r : ℕ) (d : Bool) :
    BI.Storable (upEmb : UEmb _ 𝕄) ((sched (F := F) m).payload g r d) := by
  rcases g with ⟨t, s | q⟩
  · show BI.Storable upEmb (if d then yGift t.1 else xGift t.1)
    unfold xGift yGift; split <;> infer_instance
  · show BI.Storable upEmb (dPay m (kOf q) (rOf q) t.1)
    infer_instance

section Sched
variable (c : Dev nD) (k : Fin 4) (r : Fin 8)

theorem duties_bar : (sched (F := F) m).duties (barCell c) 0 = Finset.univ := rfl
theorem duties_d : (sched (F := F) m).duties (dCell c k r) 0 = {false} := by
  show (if 3 ≤ (dS k r).val then ({false} : Finset Bool) else ∅) = {false}
  exact if_pos (dS_ge k r)
theorem duties_later (g : GSem nD τ sig) : ∀ r, 1 ≤ r → (sched (F := F) m).duties g r = ∅ :=
  fun r hr => by dsimp only [sched]; exact if_neg fun h => by omega
theorem amount_bar (d : Bool) : (sched (F := F) m).amount (barCell c) 0 d = 1 := rfl
theorem amount_d (d : Bool) : (sched (F := F) m).amount (dCell c k r) 0 d = N := rfl
theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (sched (F := F) m).expect (dCell c k r) 0 = N := by
  unfold Schedule.expect Schedule.amountOf; rw [duties_d, Finset.sum_singleton, amount_d]
theorem payload_bar_false : (sched (F := F) m).payload (barCell c) 0 false = xGift c := rfl
theorem payload_bar_true : (sched (F := F) m).payload (barCell c) 0 true = yGift c := rfl
theorem payload_d (d : Bool) : (sched (F := F) m).payload (dCell c k r) 0 d = dPay m k r c := by
  show dPay m (kOf (dS k r)) (rOf (dS k r)) c = _
  rw [kOf_dS, rOf_dS]
/-- The rest of a cell's round, no duty of it taken. -/
theorem rest_bar : bigSep ((sched (F := F) m).duties (barCell c) 0 \ ∅) (fun d => (sched (F := F) m).payload (barCell c) 0 d) = iprop(xGift c ∗ yGift c) := by
  rw [Finset.sdiff_empty, duties_bar, bigSep_univ_eq_bigSepL [false, true] (by decide) (by decide), bigSepL_cons_cons, bigSepL_singleton,
    payload_bar_false, payload_bar_true]
  rfl
theorem rest_d : bigSep ((sched (F := F) m).duties (dCell c k r) 0 \ ∅) (fun d => (sched (F := F) m).payload (dCell c k r) 0 d) = dPay m k r c := by
  rw [Finset.sdiff_empty, duties_d, bigSep_singleton, payload_d]

end Sched

/-! ## What each device owes; the levels -/

/-- The chunks `rs` of device `c`'s transfers across `x`, and across `y`, not yet issued: their units at the receivers. -/
def owX (c : Dev nD) (rs : List (Fin 8)) : CellTallies nD τ sig Unit := (rs.map fun r => tallyAt (dCell (xp c) 1 r) () N).sum
def owY (c : Dev nD) (rs : List (Fin 8)) : CellTallies nD τ sig Unit := (rs.map fun r => tallyAt (dCell (yp c) 3 r) () N).sum

/-- At launch: every transfer, and a unit at each peer's barrier. -/
def O₂ (c : Dev nD) : CellTallies nD τ sig Unit := owX c [0, 1, 2, 3, 4, 5, 6, 7] + owY c [0, 1, 2, 3, 4, 5, 6, 7]
def O₁ (c : Dev nD) : CellTallies nD τ sig Unit := O₂ c + tallyAt (barCell (yp c)) () 1
def O₀ (c : Dev nD) : CellTallies nD τ sig Unit := O₁ c + tallyAt (barCell (xp c)) () 1

theorem owX_cons (c : Dev nD) (r : Fin 8) (rs : List (Fin 8)) : owX c (r :: rs) = owX c rs + tallyAt (dCell (xp c) 1 r) () N := by
  unfold owX; rw [List.map_cons, List.sum_cons, add_comm]
theorem owY_cons (c : Dev nD) (r : Fin 8) (rs : List (Fin 8)) : owY c (r :: rs) = owY c rs + tallyAt (dCell (yp c) 3 r) () N := by
  unfold owY; rw [List.map_cons, List.sum_cons, add_comm]
theorem owX_nil (c : Dev nD) : owX c [] = 0 := rfl
theorem owY_nil (c : Dev nD) : owY c [] = 0 := rfl

def L (g : GSem nD τ sig) : Finset Unit := if g.1.2 = .tc then {()} else ∅
/-- Barrier cells at 1, arrivals across `x` at 2, arrivals across `y` at 3, everything else at 0. -/
def lv (g : GSem nD τ sig) (_ : Unit) : ℕ := match g.2 with
  | .reg _ => 1
  | .dma q => if q.val < 11 then 0 else if q.val < 19 then 2 else if q.val < 27 then 0 else 3

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_x (c : Dev nD) (r : Fin 8) (u : Unit) : lv (dCell c 1 r) u = 2 := by
  show (if (dS 1 r).val < 11 then 0 else if (dS 1 r).val < 19 then 2 else if (dS 1 r).val < 27 then 0 else 3) = 2
  revert r; decide
theorem lv_y (c : Dev nD) (r : Fin 8) (u : Unit) : lv (dCell c 3 r) u = 3 := by
  show (if (dS 3 r).val < 11 then 0 else if (dS 3 r).val < 19 then 2 else if (dS 3 r).val < 27 then 0 else 3) = 3
  revert r; decide
theorem lv_xd (c : Dev nD) (r : Fin 8) (u : Unit) : lv (dCell c 0 r) u = 0 := by
  show (if (dS 0 r).val < 11 then 0 else if (dS 0 r).val < 19 then 2 else if (dS 0 r).val < 27 then 0 else 3) = 0
  revert r; decide

/-- A unit owed by a sum of tallies is owed by one of them. -/
theorem owed_of_sum {g : GSem nD τ sig} {u : Unit} (f : Fin 8 → GSem nD τ sig) :
    ∀ rs : List (Fin 8), 0 < (rs.map fun r => (tallyAt (f r) () N : CellTallies nD τ sig Unit)).sum g u → ∃ r, g = f r
  | [], h => absurd h (Nat.lt_irrefl 0)
  | r :: rs, h => by
    rw [List.map_cons, List.sum_cons, Pi.add_apply, Finsupp.add_apply, tallyAt_apply] at h
    by_cases hg : g = f r
    · exact ⟨r, hg⟩
    · rw [if_neg fun h' => hg h'.1, Nat.zero_add] at h
      exact owed_of_sum f rs h

theorem owX_pos {c : Dev nD} {rs : List (Fin 8)} {g : GSem nD τ sig} {u : Unit} (h : 0 < owX c rs g u) : ∃ r, g = dCell (xp c) 1 r := owed_of_sum _ rs h
theorem owY_pos {c : Dev nD} {rs : List (Fin 8)} {g : GSem nD τ sig} {u : Unit} (h : 0 < owY c rs g u) : ∃ r, g = dCell (yp c) 3 r := owed_of_sum _ rs h

/-- What is owed at launch is owed at cells of level 1 or more; after the signals, at cells of level 2 or more; and every
    one is a TensorCore's. -/
theorem O₂_pos {c : Dev nD} {g : GSem nD τ sig} {u : Unit} (h : 0 < O₂ c g u) : (∃ d sm, g = ((d : Dev nD).tc, sm)) ∧ 2 ≤ lv g u := by
  unfold O₂ at h
  rw [Pi.add_apply, Finsupp.add_apply] at h
  rcases Nat.add_pos_iff_pos_or_pos.mp h with h | h
  · obtain ⟨r, rfl⟩ := owX_pos h; exact ⟨⟨_, _, rfl⟩, by rw [lv_x]⟩
  · obtain ⟨r, rfl⟩ := owY_pos h; exact ⟨⟨_, _, rfl⟩, by rw [lv_y]; decide⟩
theorem O₀_pos {c : Dev nD} {g : GSem nD τ sig} {u : Unit} (h : 0 < O₀ c g u) : (∃ d sm, g = ((d : Dev nD).tc, sm)) ∧ 1 ≤ lv g u := by
  unfold O₀ O₁ at h
  rw [Pi.add_apply, Finsupp.add_apply, Pi.add_apply, Finsupp.add_apply, tallyAt_apply, tallyAt_apply] at h
  by_cases h1 : g = barCell (xp c)
  · subst h1; exact ⟨⟨_, _, rfl⟩, le_refl 1⟩
  by_cases h2 : g = barCell (yp c)
  · subst h2; exact ⟨⟨_, _, rfl⟩, le_refl 1⟩
  rw [if_neg (fun h' => h2 h'.1), if_neg (fun h' => h1 h'.1)] at h
  obtain ⟨a, b⟩ := O₂_pos (c := c) (g := g) (u := u) h
  exact ⟨a, Nat.le_of_succ_le b⟩

/-- A device may wait at a cell of level `n` while everything it owes is at cells of a higher level. -/
theorem mayWait_below (c : Dev nD) (sm : SemLoc sig) (O : CellTallies nD τ sig Unit) (n : ℕ) (hn : lv ((c : Thread nD τ), sm) () = n)
    (hO : ∀ g u, 0 < O g u → (∃ d sm, g = ((d : Dev nD).tc, sm)) ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨⟨d, s, rfl⟩, -⟩ := hO g u hg; rw [L_tc]; exact Finset.mem_singleton_self _)
    (fun p hp => by rw [Finset.mem_singleton.mp hp]; exact le_of_eq hn)
    (fun g u hg => (hO g u hg).2)

end Cert.MeshMatmul
-- ==== Proof.Body.lean ====
/-
  One device's run of the body, a step at a time: what each step needs and gives for one chunk, then the phases (a step
  done for every chunk of a list), then the whole.
-/
module

public import proofs.«01_k».proof.Proof.Protocol
public import proofs.«01_k».proof.Proof.Gen.KernelIdeal.Points
public import proofs.«01_k».proof.Proof.Gen.KernelIdeal.Frame

@[expose] public section

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The propositions. -/
abbrev PP (F : FTy → Type) := sProp (MT nD τ sig Unit (Elt F) ℕ UU ℕ)

/-- The weakest precondition of a program of device `c`. -/
abbrev wpD (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpD_ret (c : Dev nD) {α : Type} {a : α} {Q : α → PP F} : Q a ⊢ wpD c (.ret a) Q := by
  unfold wpD; rw [wp_ret]; iintro H; imodintro; iexact H
theorem wpD_bind (c : Dev nD) {α β : Type} (p : Prog (TpuEff nD τ sig (Elt F) Λ₀ .tc) α) (k : α → Prog (TpuEff nD τ sig (Elt F) Λ₀ .tc) β) {Q : β → PP F} :
    wpD c (p >>= k) Q = wpD c p fun x => wpD c (k x) Q := wp_bind _ _ _ p k Q

/-- An owned memref is a points-to of contents that read what it is owned at. -/
theorem owns_out (c : Dev nD) {s : Shape} {e : EltTy} (b : Memref sig .tc .vmem s e) (q : PosShare TreeShare) (X : s.Idx → Elt F e) :
    (owns (c : Thread nD τ) b q X : sProp 𝕄) ⊢ iprop(∃ f, ⌜b.view.read (Elt F) f = X⌝ ∗ b.view.loc (c : Thread nD τ) ↦[b.view.set]{q} f) :=
  BI.Entails.refl _

/-! ## Loads and stores of owned memrefs -/

section Access

variable (c : Dev nD) {s : Shape} {e : EltTy} (b : Memref sig .tc .vmem s e) (r : Rect s) (hr : ∀ a, r.stride a = 1)

/-- A load of a rectangle of which the slice is owned reads what it is owned at. -/
theorem load_slice (q : PosShare TreeShare) (X : r.shape.Idx → Elt F e) {hl : b.view.LoadsAt r.toLoadRect} {α : Type}
    {k : (r.shape.Idx → Elt F e) → Prog (TpuEff nD τ sig (Elt F) Λ₀ .tc) α} {Q : α → sProp 𝕄} :
    (owns (c : Thread nD τ) (b.slice r hr) q X : sProp 𝕄)
      ⊢ iprop((owns (c : Thread nD τ) (b.slice r hr) q X -∗ wpD c (k X) Q) -∗ wpD c (.op (.load b r.toLoadRect hl) k) Q) := by
  unfold owns
  iintro ⟨%f, %hf, H⟩ Hk
  subst hf
  iapply (wp_load_rect 𝒱₀ (c : Thread nD τ) none Set.univ (m := b) (r := r) (S := (b.slice r hr).view.set) (Finset.Subset.refl _)) $$ H
  iintro H
  iapply Hk
  iexists f; isplitr
  · ipureintro; rfl
  · iexact H

/-- A load of a rectangle of an owned memref reads its part of what the memref is owned at. -/
theorem load_part (q : PosShare TreeShare) (X : s.Idx → Elt F e) {hl : b.view.LoadsAt r.toLoadRect} {α : Type}
    {k : (r.shape.Idx → Elt F e) → Prog (TpuEff nD τ sig (Elt F) Λ₀ .tc) α} {Q : α → sProp 𝕄} :
    (owns (c : Thread nD τ) b q X : sProp 𝕄)
      ⊢ iprop((owns (c : Thread nD τ) b q X -∗ wpD c (k fun j => X (r.emb j)) Q) -∗ wpD c (.op (.load b r.toLoadRect hl) k) Q) := by
  unfold owns
  iintro ⟨%f, %hf, H⟩ Hk
  subst hf
  iapply (wp_load_rect 𝒱₀ (c : Thread nD τ) none Set.univ (m := b) (r := r) (S := b.view.set) (b.view.set_slice_subset r)) $$ H
  iintro H
  iapply Hk
  iexists f; isplitr
  · ipureintro; rfl
  · iexact H

/-- A store of a rectangle of which the slice is owned leaves it owned at the stored values. -/
theorem store_slice (X w : r.shape.Idx → Elt F e) {hx : (b.access r).Stores Finset.univ} {hm} {α : Type}
    {k : PUnit → Prog (TpuEff nD τ sig (Elt F) Λ₀ .tc) α} {Q : α → sProp 𝕄} :
    (owns (c : Thread nD τ) (b.slice r hr) fullShare X : sProp 𝕄)
      ⊢ iprop((owns (c : Thread nD τ) (b.slice r hr) fullShare w -∗ wpD c (k ⟨⟩) Q) -∗ wpD c (.op (.store b r w Finset.univ hx hm) k) Q) := by
  unfold owns
  iintro ⟨%f, -, H⟩ Hk
  iapply (wp_store 𝒱₀ (c : Thread nD τ) none Set.univ (m := b) (r := r) (S := (b.slice r hr).view.set) (Finset.Subset.refl _)) $$ H
  iintro H
  iapply Hk
  iexists _; isplitr
  · ipureintro; exact View.read_write_univ f w
  · iexact H

end Access

/-! ## What every step may use: the cells' invariants and first rounds, and the levels -/

/-- The cells of a device: its barrier, and the transfer cell of each kind and chunk. -/
abbrev CI : Type := Option (Fin 4 × Fin 8)
def cellAt (p : Dev nD × CI) : GSem nD τ sig := match p.2 with
  | none => barCell p.1
  | some kr => dCell p.1 kr.1 kr.2

def records (K : Dev nD × CI → ℕ) : sProp 𝕄 :=
  iprop((bigSep Finset.univ fun p => cellInv ER (sched (F := F) m) (K p) (cellAt p))
    ∗ (bigSep Finset.univ fun p => reached ER (cellAt p) 0) ∗ levAts L lv)

instance records_persistent (K : Dev nD × CI → ℕ) : BI.Persistent (records (F := F) m K) := by unfold records; infer_instance

section Records
variable (K : Dev nD × CI → ℕ)

theorem inv_at (p : Dev nD × CI) : records m K ⊢ cellInv ER (sched (F := F) m) (K p) (cellAt p) := by
  unfold records; exact sep_elim_left.trans (BI.bigSep_elim (Finset.mem_univ p))
theorem reached_at (p : Dev nD × CI) : records (F := F) m K ⊢ reached ER (cellAt p) 0 := by
  unfold records; exact sep_elim_right.trans (sep_elim_left.trans (BI.bigSep_elim (Finset.mem_univ p)))
theorem lev_at : records (F := F) m K ⊢ levAts L lv := by
  unfold records; exact sep_elim_right.trans sep_elim_right

/-- Device `c` owes `O`. -/
def obl (c : Dev nD) (O : CellTallies nD τ sig Unit) : sProp 𝕄 := iprop(∃ W, owes (c : Thread nD τ) O W)

end Records

/-! ## The steps -/

section Steps
variable (K : Dev nD × CI → ℕ) (c : Dev nD) (r : Fin 8) {Q : PUnit → PP F}

theorem full_emb (j : S256x512.Idx) : (Rect.unit (s := S256x512) ![0, 0] S256x512.size inb_S256x512_S256x512_0_0).emb j = j := by
  funext a; apply Fin.ext; fin_cases a <;> simp [Rect.emb, Rect.unit]

/-- The product of a chunk, stored. -/
theorem dot_step :
    iprop(owns (c : Thread nD τ) aM fullShare (aStg m c) ∗ owns (c : Thread nD τ) bM fullShare (bStg m c) ∗ some32 (F := F) c pM r)
      ⊢ iprop((owns (c : Thread nD τ) aM fullShare (aStg m c) ∗ owns (c : Thread nD τ) bM fullShare (bStg m c)
          ∗ owns (c : Thread nD τ) (ch pM r) fullShare (prodV m c r) -∗ Q ⟨⟩) -∗ wpD c (dotStep c r) Q) := by
  unfold dotStep some32
  simp only [Prog.lift, Prog.bind_op, Prog.bind_ret, Prog.pure_eq_ret]
  iintro ⟨Ha, Hb, ⟨%X, Hp⟩⟩ Hk
  iapply (load_part c aM (rA c r) fullShare (aStg m c)) $$ Ha; iintro Ha
  iapply (load_part c bM _ fullShare (bStg m c)) $$ Hb; iintro Hb
  iapply (load_slice c pM (rC r) (fun _ => rfl) fullShare X) $$ Hp; iintro Hp
  iapply (store_slice c pM (rC r) (fun _ => rfl) X) $$ Hp; iintro Hp
  iapply (wpD_ret c)
  iapply Hk
  isplitl [Ha]; · iexact Ha
  isplitl [Hb]; · iexact Hb
  rw [show prodV m c r = k0_pay1 (aRows m c r) (fun j => bStg m c ((Rect.unit (s := S256x512) ![0, 0] S256x512.size inb_S256x512_S256x512_0_0).emb j)) from by
    unfold prodV; exact congrArg _ (funext fun j => by rw [full_emb])]
  iexact Hp

/-- Every chunk's transfer completes with the same units. -/
theorem credit_ch (b : Memref sig .tc .vmem S256x512 .bf16) (r : Fin 8) : (ch b r).view.dmaCredit = N := rfl

/-- A transfer of a chunk to the same chunk of device `n`'s landing buffer: it hands the two payloads in, pays off what was
    owed at the arrival cell, and gives the credit to wait for the departure. -/
theorem send_rule (n : Dev nD) (src dst : Memref sig .tc .vmem S256x512 .bf16) (k k' : Fin 4) (q : PosShare TreeShare)
    (X : Vec F S32x512 .bf16) (O : CellTallies nD τ sig Unit)
    {hsc : (ch dst r : Memref sig (Dev.tc n : Thread nD τ).2.kind .vmem S32x512 .bf16).view.ref.isScScratch = false}
    {hsrc : (ch src r).view.WordExact} {hdst : (ch dst r : Memref sig (Dev.tc n : Thread nD τ).2.kind .vmem S32x512 .bf16).view.WordExact}
    {hsem : DmaTarget.Typed .vmem (.dma (dS k' r)) (.remote (Dev.tc n : Thread nD τ) (ch dst r) (.dma (dS k r)) hsc)}
    {kk : PUnit → Frag F}
    (h₁ : owns (c : Thread nD τ) (ch src r) q X ⊢ dPay m k r c)
    (h₂ : owns (n : Thread nD τ) (ch dst r) fullShare X ⊢ dPay m k' r n) :
    iprop(records m K ∗ owns (c : Thread nD τ) (ch src r) q X ∗ some32 (F := F) n dst r
        ∗ obl c (O + tallyAt (dCell n k' r) () N) ∗ dutyTok ER (dCell c k r) 0 false ∗ dutyTok ER (dCell n k' r) 0 false)
      ⊢ iprop((cred (tallyAt (dCell c k r) () N) ∗ obl c O -∗ wpD c (kk ⟨⟩) Q)
          -∗ wpD c (.op (.enqueueDma (ch src r) (.remote (Dev.tc n : Thread nD τ) (ch dst r) (.dma (dS k r)) hsc) (.dma (dS k' r)) hsrc hdst hsem) kk) Q) := by
  unfold some32 obl
  iintro ⟨#HR, Hs, ⟨%Y, Hd⟩, ⟨%W, HO⟩, Ht, Ht'⟩ Hk
  ihave Hs := (owns_out c (ch src r) q X) $$ Hs
  ihave Hd := (owns_out n (ch dst r) fullShare Y) $$ Hd
  icases Hs with ⟨%fs, %hfs, Hs⟩
  icases Hd with ⟨%fd, -, Hd⟩
  subst hfs
  iapply (Rounds.wp_send_pointsTo 𝒱₀ ER (sched m) (c : Thread nD τ) none (κ₁ := K (c, some (k, r))) (κ₂ := K (n, some (k', r)))
    (r₁ := 0) (r₂ := 0) (d₁ := false) (d₂ := false) (fd := fd)
    (by rw [duties_d]; exact Finset.mem_singleton_self _) (by rw [duties_d]; exact Finset.mem_singleton_self _)
    () () N (show (ch dst r).view.amount (.dma (dS k' r)) = N from credit_ch dst r) (amount_d m c k r false) (amount_d m n k' r false) O rfl (W := W)
    (by rw [payload_d]; exact (owns_intro _ _ _ fs).trans h₁)
    (by
      rw [payload_d]; refine BI.Entails.trans (owns_intro _ _ _ _) ?_
      rw [View.read_write_univ]; exact h₂)) $$ [Hs Hd HO Ht Ht']
  · isplitr; · iapply (inv_at m K (c, some (k, r))); iexact HR
    isplitr; · iapply (inv_at m K (n, some (k', r))); iexact HR
    isplitl [Hs]; · iexact Hs
    isplitl [Hd]; · iexact Hd
    isplitl [HO]; · iexact HO
    isplitl [Ht]; · iexact Ht
    isplitr; · iapply (reached_at m K (c, some (k, r))); iexact HR
    isplitl [Ht']; · iexact Ht'
    iapply (reached_at m K (n, some (k', r))); iexact HR
  iintro ⟨Hc, HO⟩
  iapply Hk
  isplitl [Hc]; · iexact Hc
  iexists W; iexact HO

/-- A wait for a chunk's transfer: the payload comes with it, and the semaphore is at zero for good. -/
theorem wait_rule (k : Fin 4) (O : CellTallies nD τ sig Unit) (hO : (levAts L lv : sProp 𝕄) ⊢ MayWait (c : Thread nD τ) (.dma (dS k r)) () O)
    (src dst : Memref sig .tc .vmem S256x512 .bf16) {hsrc : (ch src r).view.WordExact} {hdst : (ch dst r).view.WordExact}
    {kk : PUnit → Frag F} :
    iprop(records m K ∗ cred (tallyAt (dCell c k r) () N) ∗ obl c O ∗ atPos ER (dCell c k r) 0 ∅ 0)
      ⊢ iprop((obl c O ∗ dPay m k r c ∗ semVal (dCell c k r) 0 -∗ wpD c (kk ⟨⟩) Q)
          -∗ wpD c (.op (.waitDma2 (dS k r) (ch src r) (ch dst r) hsrc hdst) kk) Q) := by
  unfold obl
  iintro ⟨#HR, Hc, ⟨%W, HO⟩, Hat⟩ Hk
  iapply (Rounds.wp_wait_rest_token 𝒱₀ ER (sched m) (c : Thread nD τ) none (κ := K (c, some (k, r)))
    (k' := N) (fun Q => (wpE_waitDma2_eq 𝒱₀ (c : Thread nD τ) none Set.univ Q).trans (by rw [credit_ch])) (Set.mem_univ _) ()
    (O := O) (W := W) (R := 0) (m := 0) (T := ∅) (by rw [Nat.zero_add, expect_d])) $$ [Hc HO Hat]
  · isplitr; · iapply (inv_at m K (c, some (k, r))); iexact HR
    isplitl [Hc]; · iexact Hc
    isplitl [HO]; · iexact HO
    isplitr; · iapply hO; iapply (lev_at m K); iexact HR
    iexact Hat
  iintro ⟨HO, Hat, -, Hp⟩
  imod (Rounds.cell_close ER (sched m) (Set.mem_univ (K (c, some (k, r)))) (fun h => h) (R := 0 + 1) (duties_later m (dCell c k r))) $$ [Hat] with Hz
  · isplitr; · iapply (inv_at m K (c, some (k, r))); iexact HR
    iexact Hat
  iapply Hk
  isplitl [HO]; · iexists _; iexact HO
  isplitl [Hp]; · iapply (Entails.of_eq (rest_d m c k r)); iexact Hp
  iexact Hz

/-- A chunk of the products sent across `x`: half of its share is lent. -/
theorem xSend_step (rs : List (Fin 8)) (O : CellTallies nD τ sig Unit) :
    iprop(records m K ∗ owns (c : Thread nD τ) (ch pM r) fullShare (prodV m c r) ∗ some32 (F := F) (xp c) xM r
        ∗ obl c (owX c (r :: rs) + O) ∗ dutyTok ER (dCell c 0 r) 0 false ∗ dutyTok ER (dCell (xp c) 1 r) 0 false)
      ⊢ iprop((owns (c : Thread nD τ) (ch pM r) fullShare.right (prodV m c r) ∗ cred (tallyAt (dCell c 0 r) () N) ∗ obl c (owX c rs + O) -∗ Q ⟨⟩)
          -∗ wpD c (xSend (xp c) r) Q) := by
  unfold xSend
  simp only [Prog.lift]
  rw [owX_cons, add_right_comm]
  iintro ⟨#HR, Hp, Hd, HO, Ht, Ht'⟩ Hk
  ihave Hp := (owns_halves (c : Thread nD τ) (ch pM r) fullShare (prodV m c r)).1 $$ Hp
  icases Hp with ⟨Hl, Hr⟩
  iapply (send_rule m K c r (xp c) pM xM 0 1 fullShare.left (prodV m c r) (owX c rs + O) (BI.Entails.refl _)
    (by unfold dPay; dsimp only; rw [xp_xp])) $$ [Hl Hd HO Ht Ht']
  · isplitr; · iexact HR
    isplitl [Hl]; · iexact Hl
    isplitl [Hd]; · iexact Hd
    isplitl [HO]; · iexact HO
    isplitl [Ht]; · iexact Ht
    iexact Ht'
  iintro ⟨Hc, HO⟩
  iapply (wpD_ret c)
  iapply Hk
  isplitl [Hr]; · iexact Hr
  isplitl [Hc]; · iexact Hc
  iexact HO

/-- What chunk `r`'s sum needs: the products kept back, with the credit for the departure across `x`; a chunk of the sums'
    buffer and of the result's; the landing chunk of `yp c`; the duties of the transfer across `y`; the positions at the two
    cells across `x`, and the credit for the arrival. -/
def sumPre : PP F :=
  iprop(owns (c : Thread nD τ) (ch pM r) fullShare.right (prodV m c r) ∗ cred (tallyAt (dCell c 0 r) () N)
    ∗ some32 (F := F) c sM r ∗ (∃ X, owns (c : Thread nD τ) (oM.slice (rOwn c r) (fun _ => rfl)) fullShare X) ∗ some32 (F := F) (yp c) yM r
    ∗ dutyTok ER (dCell c 2 r) 0 false ∗ dutyTok ER (dCell (yp c) 3 r) 0 false
    ∗ atPos ER (dCell c 0 r) 0 ∅ 0 ∗ atPos ER (dCell c 1 r) 0 ∅ 0 ∗ cred (tallyAt (dCell c 1 r) () N))
/-- What it leaves: the two chunks across `x` and the result's chunk, the credit for the departure across `y`, two
    semaphores at zero. -/
def sumPost : PP F :=
  iprop(owns (c : Thread nD τ) (ch pM r) fullShare (prodV m c r) ∗ owns (c : Thread nD τ) (ch xM r) fullShare (prodV m (xp c) r)
    ∗ owns (c : Thread nD τ) (oM.slice (rOwn c r) (fun _ => rfl)) fullShare (ownV m c r) ∗ cred (tallyAt (dCell c 2 r) () N)
    ∗ semVal (dCell c 0 r) 0 ∗ semVal (dCell c 1 r) 0)

/-- A device waits across `x` while it owes transfers across `y` only. -/
theorem mayWait_x (k : Fin 4) (hk : k = 0 ∨ k = 1) (rs : List (Fin 8)) :
    (levAts L lv : PP F) ⊢ MayWait (c : Thread nD τ) (.dma (dS k r)) () (owY c rs) := by
  rcases hk with rfl | rfl
  · exact mayWait_below c _ _ 0 (lv_xd c r ()) fun g u h => by
      obtain ⟨r', rfl⟩ := owY_pos h; exact ⟨⟨_, _, rfl⟩, by rw [lv_y]; decide⟩
  · exact mayWait_below c _ _ 2 (lv_x c r ()) fun g u h => by
      obtain ⟨r', rfl⟩ := owY_pos h; exact ⟨⟨_, _, rfl⟩, by rw [lv_y]; decide⟩

theorem sum_step (rs : List (Fin 8)) :
    iprop(records m K ∗ sumPre m c r ∗ obl c (owY c (r :: rs)))
      ⊢ iprop((sumPost m c r ∗ obl c (owY c rs) -∗ Q ⟨⟩) -∗ wpD c (sumStep c (yp c) r) Q) := by
  unfold sumStep xArrive ySend xDepart sumPre sumPost
  simp only [Prog.lift, Prog.bind_op, Prog.bind_ret, Prog.pure_eq_ret]
  iintro ⟨#HR, ⟨Hp, Hc0, Hs, ⟨%Y, Ho⟩, Hy, Ht, Ht', Ha0, Ha1, Hc1⟩, HO⟩ Hk
  iapply (wait_rule m K c r 1 (owY c (r :: rs)) (mayWait_x c r 1 (Or.inr rfl) _) pM xM) $$ [Hc1 HO Ha1]
  · isplitr; · iexact HR
    isplitl [Hc1]; · iexact Hc1
    isplitl [HO]; · iexact HO
    iexact Ha1
  iintro ⟨HO, Hx, Hz1⟩
  unfold dPay some32
  dsimp only
  icases Hs with ⟨%X, Hs⟩
  iapply (load_slice c pM (rC r) (fun _ => rfl) fullShare.right (prodV m c r)) $$ Hp; iintro Hp
  iapply (load_slice c xM (rC r) (fun _ => rfl) fullShare (prodV m (xp c) r)) $$ Hx; iintro Hx
  iapply (load_slice c sM (rC r) (fun _ => rfl) fullShare X) $$ Hs; iintro Hs
  iapply (store_slice c sM (rC r) (fun _ => rfl) X) $$ Hs; iintro Hs
  rw [owY_cons]
  iapply (send_rule m K c r (yp c) sM yM 2 3 fullShare (sumV m c r) (owY c rs) (BI.Entails.refl _)
    (by unfold dPay; dsimp only; rw [yp_yp])) $$ [Hs Hy HO Ht Ht']
  · isplitr; · iexact HR
    isplitl [Hs]; · iexact Hs
    isplitl [Hy]; · unfold some32; iexact Hy
    isplitl [HO]; · iexact HO
    isplitl [Ht]; · iexact Ht
    iexact Ht'
  iintro ⟨Hc2, HO⟩
  iapply (load_slice c oM (rOwn c r) (fun _ => rfl) fullShare Y) $$ Ho; iintro Ho
  iapply (store_slice c oM (rOwn c r) (fun _ => rfl) Y) $$ Ho; iintro Ho
  iapply (wait_rule m K c r 0 (owY c rs) (mayWait_x c r 0 (Or.inl rfl) _) xM pM) $$ [Hc0 HO Ha0]
  · isplitr; · iexact HR
    isplitl [Hc0]; · iexact Hc0
    isplitl [HO]; · iexact HO
    iexact Ha0
  iintro ⟨HO, Hl, Hz0⟩
  unfold dPay
  dsimp only
  iapply (wpD_ret c)
  iapply Hk
  isplitr [HO]
  · isplitl [Hl Hp]
    · iapply (owns_halves (c : Thread nD τ) (ch pM r) fullShare (prodV m c r)).2
      isplitl [Hl] <;> iassumption
    isplitl [Hx]; · iexact Hx
    isplitl [Ho]; · iexact Ho
    isplitl [Hc2]; · iexact Hc2
    isplitl [Hz0] <;> iassumption
  iexact HO

/-- What storing the arrived sum of chunk `r` needs, and what it leaves. -/
def copyPre : PP F :=
  iprop(cred (tallyAt (dCell c 2 r) () N) ∗ (∃ X, owns (c : Thread nD τ) (oM.slice (rOther c r) (fun _ => rfl)) fullShare X)
    ∗ atPos ER (dCell c 2 r) 0 ∅ 0 ∗ atPos ER (dCell c 3 r) 0 ∅ 0 ∗ cred (tallyAt (dCell c 3 r) () N))
def copyPost : PP F :=
  iprop(owns (c : Thread nD τ) (ch sM r) fullShare (sumV m c r) ∗ owns (c : Thread nD τ) (ch yM r) fullShare (sumV m (yp c) r)
    ∗ owns (c : Thread nD τ) (oM.slice (rOther c r) (fun _ => rfl)) fullShare (otherV m c r)
    ∗ semVal (dCell c 2 r) 0 ∗ semVal (dCell c 3 r) 0)

theorem copy_step :
    iprop(records m K ∗ copyPre c r ∗ obl c 0) ⊢ iprop((copyPost m c r ∗ obl c 0 -∗ Q ⟨⟩) -∗ wpD c (copyStep c r) Q) := by
  unfold copyStep yArrive yDepart copyPre copyPost
  simp only [Prog.lift, Prog.bind_op, Prog.bind_ret, Prog.pure_eq_ret]
  iintro ⟨#HR, ⟨Hc2, ⟨%Y, Ho⟩, Ha2, Ha3, Hc3⟩, HO⟩ Hk
  iapply (wait_rule m K c r 3 0 (by rw [MayWait_zero]; iintro -; iempintro) sM yM) $$ [Hc3 HO Ha3]
  · isplitr; · iexact HR
    isplitl [Hc3]; · iexact Hc3
    isplitl [HO]; · iexact HO
    iexact Ha3
  iintro ⟨HO, Hy, Hz3⟩
  unfold dPay
  dsimp only
  iapply (load_slice c yM (rC r) (fun _ => rfl) fullShare (sumV m (yp c) r)) $$ Hy; iintro Hy
  iapply (load_slice c oM (rOther c r) (fun _ => rfl) fullShare Y) $$ Ho; iintro Ho
  iapply (store_slice c oM (rOther c r) (fun _ => rfl) Y) $$ Ho; iintro Ho
  iapply (wait_rule m K c r 2 0 (by rw [MayWait_zero]; iintro -; iempintro) yM sM) $$ [Hc2 HO Ha2]
  · isplitr; · iexact HR
    isplitl [Hc2]; · iexact Hc2
    isplitl [HO]; · iexact HO
    iexact Ha2
  iintro ⟨HO, Hs, Hz2⟩
  unfold dPay
  dsimp only
  iapply (wpD_ret c)
  iapply Hk
  isplitr [HO]
  · isplitl [Hs]; · iexact Hs
    isplitl [Hy]; · iexact Hy
    isplitl [Ho]; · iexact Ho
    isplitl [Hz2] <;> iassumption
  iexact HO

end Steps

end Cert.MeshMatmul
-- ==== Proof.Tiles.lean ====
/-
  Whole buffers and their row blocks. A buffer owned whole is each of its row blocks owned, and row blocks owned at any
  values are the buffer owned whole at the values glued together. The 256-row buffers are eight blocks of 32 rows; the
  512-row result is sixteen, eight in the half of its rows that is the device's along `y` and eight in the other half.
-/
module

public import proofs.«01_k».proof.Proof.Protocol

@[expose] public section

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Gluing -/

section Glue

variable {s : Shape} {T : Type} {size : Fin s.rank → ℕ} {off : T → Fin s.rank → ℕ} {inb : ∀ t a, off t a + size a ≤ s.size a}

/-- A family of rectangles of one size, `part` telling which one an index lies in. -/
structure Tiled (inb : ∀ t a, off t a + size a ≤ s.size a) (part : s.Idx → T) : Prop where
  part_emb : ∀ t j, part ((Rect.unit (off t) size (inb t)).emb j) = t
  covers : ∀ i, ∃ j, (Rect.unit (off (part i)) size (inb (part i))).emb j = i

variable {part : s.Idx → T} (H : Tiled inb part)
include H

/-- Values on the rectangles, glued to values on the whole shape: -/
def glue {α : Type} (X : T → (⟨s.rank, size⟩ : Shape).Idx → α) : s.Idx → α := fun i => X (part i) (H.covers i).choose

/-- on each rectangle they are what was glued. -/
theorem glue_emb {α : Type} (X : T → (⟨s.rank, size⟩ : Shape).Idx → α) (t : T) (j : (⟨s.rank, size⟩ : Shape).Idx) :
    glue H X ((Rect.unit (off t) size (inb t)).emb j) = X t j := by
  have key : ∀ (t' : T) (h : t' = t) (j' : (⟨s.rank, size⟩ : Shape).Idx),
      (Rect.unit (off t') size (inb t')).emb j' = (Rect.unit (off t) size (inb t)).emb j → X t' j' = X t j := by
    intro t' h j' e
    subst h
    exact congrArg _ ((Rect.unit (off t') size (inb t')).emb.injective e)
  exact key _ (H.part_emb t j) _ (H.covers ((Rect.unit (off t) size (inb t)).emb j)).choose_spec

variable [Fintype T] [DecidableEq T]

theorem tiled_disjoint (t t' : T) (h : t ≠ t') : Disjoint (Rect.unit (off t) size (inb t)).set (Rect.unit (off t') size (inb t')).set := by
  rw [Finset.disjoint_left]
  intro i h₁ h₂
  obtain ⟨j, rfl⟩ := (Rect.unit (off t) size (inb t)).exists_idx_of_mem h₁
  obtain ⟨j', e⟩ := (Rect.unit (off t') size (inb t')).exists_idx_of_mem h₂
  exact h ((H.part_emb t j).symm.trans ((congrArg part e.symm).trans (H.part_emb t' j')))

theorem tiled_cover : (Finset.univ : Finset T).biUnion (fun t => (Rect.unit (off t) size (inb t)).set) = Finset.univ := by
  refine Finset.eq_univ_iff_forall.mpr fun i => Finset.mem_biUnion.mpr ⟨part i, Finset.mem_univ _, ?_⟩
  obtain ⟨j, hj⟩ := H.covers i
  have h : (Rect.unit (off (part i)) size (inb (part i))).emb j ∈ (Rect.unit (off (part i)) size (inb (part i))).set :=
    LoadRect.idx_mem _ j
  rwa [hj] at h

variable (c : Dev nD) {e : EltTy} (b : Memref sig .tc .vmem s e) (q : PosShare TreeShare)

/-- A memref owned whole is owned rectangle by rectangle, -/
theorem owns_split (X : s.Idx → Elt F e) :
    (owns (c : Thread nD τ) b q X : sProp 𝕄)
      ⊢ bigSep Finset.univ fun t => owns (c : Thread nD τ) (b.slice (Rect.unit (off t) size (inb t)) (fun _ => rfl)) q
          (fun j => X ((Rect.unit (off t) size (inb t)).emb j)) :=
  owns_rects (c : Thread nD τ) b q (fun t => Rect.unit (off t) size (inb t)) (fun _ _ => rfl) (tiled_disjoint H) (tiled_cover H) X

/-- and owned rectangle by rectangle it is owned whole, at the glued values. -/
theorem owns_glue (X : T → (⟨s.rank, size⟩ : Shape).Idx → Elt F e) :
    (bigSep Finset.univ fun t => owns (c : Thread nD τ) (b.slice (Rect.unit (off t) size (inb t)) (fun _ => rfl)) q (X t))
      ⊢ (owns (c : Thread nD τ) b q (glue H X) : sProp 𝕄) := by
  refine BI.Entails.trans ?_ (owns_of_rects (c : Thread nD τ) b q (fun t => Rect.unit (off t) size (inb t)) (fun _ _ => rfl) (tiled_disjoint H) (tiled_cover H) (glue H X))
  refine Entails.of_eq (bigSep_congr fun t _ => ?_)
  refine congrArg _ (funext fun j => ?_)
  exact (glue_emb H X t j).symm

end Glue

/-- A slice at an equal offset is the same slice. -/
theorem owns_unit_congr (c : Dev nD) {s : Shape} {e : EltTy} (b : Memref sig .tc .vmem s e) {size off off' : Fin s.rank → ℕ} (h : off = off')
    (inb : ∀ a, off a + size a ≤ s.size a) (inb' : ∀ a, off' a + size a ≤ s.size a) (q : PosShare TreeShare) (X : (⟨s.rank, size⟩ : Shape).Idx → Elt F e) :
    (owns (c : Thread nD τ) (b.slice (Rect.unit off size inb) (fun _ => rfl)) q X : sProp 𝕄)
      = owns (c : Thread nD τ) (b.slice (Rect.unit off' size inb') (fun _ => rfl)) q X := by
  subst h; rfl

/-! ## The 256-row buffers -/

/-- The chunk a row of a 256-row buffer lies in. -/
def chunkOf (i : S256x512.Idx) : Fin 8 := ⟨(i (0 : Fin 2)).val / 32, by have : (i (0 : Fin 2)).val < 256 := (i (0 : Fin 2)).isLt; omega⟩

theorem chunks_tiled : Tiled (s := S256x512) (size := S32x512.size) (off := fun r : Fin 8 => ![32 * r.val, 0]) chunk_inb chunkOf where
  part_emb t j := by
    apply Fin.ext
    have hj : (j (0 : Fin 2)).val < 32 := (j (0 : Fin 2)).isLt
    show (32 * t.val + 1 * (j (0 : Fin 2)).val) / 32 = t.val
    omega
  covers i := by
    have h0 : (i (0 : Fin 2)).val < 256 := (i (0 : Fin 2)).isLt
    refine ⟨fun a => match a with
      | ⟨0, _⟩ => ⟨(i (0 : Fin 2)).val % 32, Nat.mod_lt _ (by decide)⟩
      | ⟨1, _⟩ => ⟨(i (1 : Fin 2)).val, (i (1 : Fin 2)).isLt⟩, ?_⟩
    funext a
    apply Fin.ext
    match a with
    | ⟨0, _⟩ => show 32 * ((i (0 : Fin 2)).val / 32) + 1 * ((i (0 : Fin 2)).val % 32) = (i (0 : Fin 2)).val; omega
    | ⟨1, _⟩ => show 0 + 1 * (i (1 : Fin 2)).val = (i (1 : Fin 2)).val; omega

theorem some32_intro (c : Dev nD) (b : Memref sig .tc .vmem S256x512 .bf16) (r : Fin 8) (X : Vec F S32x512 .bf16) :
    owns (c : Thread nD τ) (ch b r) fullShare X ⊢ (some32 (F := F) c b r : sProp 𝕄) := by
  unfold some32; iintro H; iexists _; iexact H

/-- A 256-row buffer at any contents is its chunks at some values, -/
theorem chunks_split (c : Dev nD) (b : Memref sig .tc .vmem S256x512 .bf16) (X : S256x512.Idx → Elt F .bf16) :
    (owns (c : Thread nD τ) b fullShare X : sProp 𝕄) ⊢ bigSep Finset.univ fun r => some32 (F := F) c b r := by
  exact (owns_split chunks_tiled c b fullShare X).trans (bigSep_mono fun r _ => some32_intro c b r _)

/-- and chunks at any values are the buffer at some contents. -/
theorem chunks_join (c : Dev nD) (b : Memref sig .tc .vmem S256x512 .bf16) (X : Fin 8 → Vec F S32x512 .bf16) :
    (bigSep Finset.univ fun r => owns (c : Thread nD τ) (ch b r) fullShare (X r))
      ⊢ (iprop(∃ f, owns (c : Thread nD τ) b fullShare f) : sProp 𝕄) := by
  refine (owns_glue chunks_tiled c b fullShare X).trans ?_
  iintro H; iexists _; iexact H

/-! ## The result -/

/-- Row block `t` of the result: chunk `t.2` of the device's half when `t.1` is 0, of the other half when `t.1` is 1. -/
def offO (c : Dev nD) (t : Fin 2 × Fin 8) : Fin 2 → ℕ := ![256 * ((c.val + t.1.val) % 2) + 32 * t.2.val, 0]
theorem offO_inb (c : Dev nD) (t : Fin 2 × Fin 8) : ∀ a, offO c t a + S32x512.size a ≤ S512x512.size a := by
  have h2 := t.2.isLt
  have h : (c.val + t.1.val) % 2 < 2 := Nat.mod_lt _ (by decide)
  intro a
  match a with
  | ⟨0, _⟩ => show 256 * ((c.val + t.1.val) % 2) + 32 * t.2.val + 32 ≤ 512; omega
  | ⟨1, _⟩ => show 0 + 512 ≤ 512; omega

def blockOf (c : Dev nD) (i : S512x512.Idx) : Fin 2 × Fin 8 :=
  (⟨((i (0 : Fin 2)).val / 256 + c.val) % 2, Nat.mod_lt _ (by decide)⟩, ⟨(i (0 : Fin 2)).val % 256 / 32, by omega⟩)

theorem blocks_tiled (c : Dev nD) : Tiled (s := S512x512) (size := S32x512.size) (off := offO c) (offO_inb c) (blockOf c) where
  part_emb t j := by
    obtain ⟨⟨h, hh⟩, ⟨r, hr⟩⟩ := t
    have hj : (j (0 : Fin 2)).val < 32 := (j (0 : Fin 2)).isLt
    apply Prod.ext
    · apply Fin.ext
      show ((256 * ((c.val + h) % 2) + 32 * r + 1 * (j (0 : Fin 2)).val) / 256 + c.val) % 2 = h
      omega
    · apply Fin.ext
      show (256 * ((c.val + h) % 2) + 32 * r + 1 * (j (0 : Fin 2)).val) % 256 / 32 = r
      omega
  covers i := by
    have h0 : (i (0 : Fin 2)).val < 512 := (i (0 : Fin 2)).isLt
    refine ⟨fun a => match a with
      | ⟨0, _⟩ => ⟨(i (0 : Fin 2)).val % 32, Nat.mod_lt _ (by decide)⟩
      | ⟨1, _⟩ => ⟨(i (1 : Fin 2)).val, (i (1 : Fin 2)).isLt⟩, ?_⟩
    funext a
    apply Fin.ext
    match a with
    | ⟨0, _⟩ =>
      show 256 * ((c.val + ((i (0 : Fin 2)).val / 256 + c.val) % 2) % 2) + 32 * ((i (0 : Fin 2)).val % 256 / 32) + 1 * ((i (0 : Fin 2)).val % 32) = (i (0 : Fin 2)).val
      omega
    | ⟨1, _⟩ => show 0 + 1 * (i (1 : Fin 2)).val = (i (1 : Fin 2)).val; omega

theorem off_own (c : Dev nD) (r : Fin 8) : k0_off2 c (BitVec.ofNat 32 (32 * r.val)) = offO c (0, r) := by
  rw [k0_off2_eq]; rfl
theorem off_other (c : Dev nD) (r : Fin 8) : k0_off3 c (BitVec.ofNat 32 (32 * r.val)) = offO c (1, r) := by
  rw [k0_off3_eq]; unfold offO
  have : (32 * r.val + 256) - 256 * (c.val % 2) = 256 * ((c.val + 1) % 2) + 32 * r.val := by omega
  rw [this]; rfl

variable (m : (ℓ : Loc nD τ sig) → Buf (Elt F) ℓ)

/-- The values of the result's blocks, and the result. -/
def blockV (c : Dev nD) (t : Fin 2 × Fin 8) : Vec F S32x512 .f32 := if t.1 = 0 then ownV m c t.2 else otherV m c t.2
def outAt (c : Dev nD) : Vec F S512x512 .f32 := glue (blocks_tiled c) (blockV m c)

/-- The blocks of the result, half by half. -/
theorem blocks_eq (c : Dev nD) (X : Fin 2 × Fin 8 → Vec F S32x512 .f32) :
    (bigSep Finset.univ fun t => owns (c : Thread nD τ) (oM.slice (Rect.unit (offO c t) S32x512.size (offO_inb c t)) (fun _ => rfl)) fullShare (X t) : sProp 𝕄)
      = iprop((bigSep Finset.univ fun r => owns (c : Thread nD τ) (oM.slice (rOwn c r) (fun _ => rfl)) fullShare (X (0, r)))
          ∗ bigSep Finset.univ fun r => owns (c : Thread nD τ) (oM.slice (rOther c r) (fun _ => rfl)) fullShare (X (1, r))) := by
  rw [bigSep_univ_prod, bigSep_univ_two,
    bigSep_congr fun r _ => (owns_unit_congr c oM (off_own c r) (k0_off2_inb c r) (offO_inb c (0, r)) fullShare (X (0, r))).symm,
    bigSep_congr fun r _ => (owns_unit_congr c oM (off_other c r) (k0_off3_inb c r) (offO_inb c (1, r)) fullShare (X (1, r))).symm]

theorem slice_some (c : Dev nD) {s : Shape} {e : EltTy} (b : Memref sig .tc .vmem s e) (r : Rect s) {hr : ∀ a, r.stride a = 1} (X : r.shape.Idx → Elt F e) :
    (owns (c : Thread nD τ) (b.slice r hr) fullShare X : sProp 𝕄) ⊢ iprop(∃ Y, owns (c : Thread nD τ) (b.slice r hr) fullShare Y) := by
  iintro H; iexists _; iexact H

/-- The result's buffer at any contents is its blocks at some values, -/
theorem out_split (c : Dev nD) (X : S512x512.Idx → Elt F .f32) :
    (owns (c : Thread nD τ) oM fullShare X : sProp 𝕄)
      ⊢ iprop((bigSep Finset.univ fun r => iprop(∃ Y, owns (c : Thread nD τ) (oM.slice (rOwn c r) (fun _ => rfl)) fullShare Y))
          ∗ bigSep Finset.univ fun r => iprop(∃ Y, owns (c : Thread nD τ) (oM.slice (rOther c r) (fun _ => rfl)) fullShare Y)) := by
  refine (owns_split (blocks_tiled c) c oM fullShare X).trans ?_
  refine (Entails.of_eq (blocks_eq c fun t j => X ((Rect.unit (s := S512x512) (offO c t) S32x512.size (offO_inb c t)).emb j))).trans ?_
  exact BIClass.sep_mono (bigSep_mono fun r _ => slice_some c oM (rOwn c r) _) (bigSep_mono fun r _ => slice_some c oM (rOther c r) _)

/-- and the blocks at what the steps store are the result. -/
theorem out_join (c : Dev nD) :
    iprop((bigSep Finset.univ fun r => owns (c : Thread nD τ) (oM.slice (rOwn c r) (fun _ => rfl)) fullShare (ownV m c r))
        ∗ bigSep Finset.univ fun r => owns (c : Thread nD τ) (oM.slice (rOther c r) (fun _ => rfl)) fullShare (otherV m c r))
      ⊢ (owns (c : Thread nD τ) oM fullShare (outAt m c) : sProp 𝕄) :=
  (Entails.of_eq (blocks_eq c (blockV m c)).symm).trans (owns_glue (blocks_tiled c) c oM fullShare (blockV m c))

end Cert.MeshMatmul
-- ==== Proof.Phases.lean ====
/-
  The body's phases: a step done for every chunk of a list, and the whole of one device's run.
-/
module

public import proofs.«01_k».proof.Proof.Body
public import proofs.«01_k».proof.Proof.Tiles
public import Idealize.ShloMosaic.Lib.Pipeline.BigSepL

@[expose] public section

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A step for every chunk -/

/-- A step that turns a chunk's `P` into its `P'`, carrying `I` of the chunks still to come, done for every chunk. -/
theorem each_rule (c : Dev nD) (f : Fin 8 → Frag F) (P P' : Fin 8 → PP F) (I : List (Fin 8) → PP F)
    (h : ∀ r rs (Q : PUnit → PP F), iprop(P r ∗ I (r :: rs)) ⊢ iprop((P' r ∗ I rs -∗ Q ⟨⟩) -∗ wpD c (f r) Q)) :
    ∀ (rs : List (Fin 8)) (Q : PUnit → PP F),
      iprop(bigSepL rs P ∗ I rs) ⊢ iprop((bigSepL rs P' ∗ I [] -∗ Q ⟨⟩) -∗ wpD c (each f rs) Q)
  | [], Q => by
    iintro ⟨HP, HI⟩ Hk
    iapply (wpD_ret c)
    iapply Hk
    isplitl [HP]; · iexact HP
    iexact HI
  | r :: rs, Q => by
    rw [bigSepL_cons', bigSepL_cons']
    unfold each
    rw [wpD_bind]
    iintro ⟨⟨Hr, HP⟩, HI⟩ Hk
    iapply (h r rs fun x => wpD c (each f rs) Q) $$ [Hr HI]
    · isplitl [Hr] <;> iassumption
    iintro ⟨Hr, HI⟩
    iapply (each_rule c f P P' I h rs Q) $$ [HP HI]
    · isplitl [HP] <;> iassumption
    iintro ⟨HP, HI⟩
    iapply Hk
    isplitl [Hr HP]
    · isplitl [Hr] <;> iassumption
    iexact HI

/-- All the chunks, listed. -/
theorem chunks_eq (Φ : Fin 8 → PP F) : bigSep Finset.univ Φ = bigSepL [0, 1, 2, 3, 4, 5, 6, 7] Φ :=
  bigSep_univ_eq_bigSepL [0, 1, 2, 3, 4, 5, 6, 7] (by decide) (by decide) Φ

/-- Two facts of every chunk, together. -/
theorem chunks_zip (Φ Ψ X : Fin 8 → PP F) (h : ∀ r, iprop(Φ r ∗ Ψ r) ⊢ X r) :
    iprop(bigSep Finset.univ Φ ∗ bigSep Finset.univ Ψ) ⊢ bigSep Finset.univ X :=
  (Entails.of_eq (bigSep_sep' _ _ _).symm).trans (bigSep_mono fun r _ => h r)
theorem chunks_unzip (Φ Ψ X : Fin 8 → PP F) (h : ∀ r, X r ⊢ iprop(Φ r ∗ Ψ r)) :
    bigSep Finset.univ X ⊢ iprop(bigSep Finset.univ Φ ∗ bigSep Finset.univ Ψ) :=
  (bigSep_mono fun r _ => h r).trans (Entails.of_eq (bigSep_sep' _ _ _))

theorem listed_zip (rs : List (Fin 8)) (Φ Ψ : Fin 8 → PP F) :
    iprop(bigSepL rs Φ ∗ bigSepL rs Ψ) ⊢ bigSepL rs fun r => iprop(Φ r ∗ Ψ r) := by
  induction rs with
  | nil => exact sep_elim_left
  | cons r rs ih =>
    rw [bigSepL_cons', bigSepL_cons', bigSepL_cons']
    iintro ⟨⟨H1, H2⟩, H3, H4⟩
    isplitl [H1 H3]
    · isplitl [H1] <;> iassumption
    iapply ih
    isplitl [H2] <;> iassumption

section Run

variable (K : Dev nD × CI → ℕ) (c : Dev nD)

/-! ## What one device's run needs and leaves -/

/-- The operands staged. -/
def opnds : PP F := iprop(owns (c : Thread nD τ) aM fullShare (aStg m c) ∗ owns (c : Thread nD τ) bM fullShare (bStg m c))

/-- For chunk `r`: what the first step needs besides the landing chunk, -/
def lin1 (r : Fin 8) : PP F :=
  iprop(some32 (F := F) c pM r ∗ dutyTok ER (dCell c 0 r) 0 false ∗ dutyTok ER (dCell (xp c) 1 r) 0 false)
/-- the second step besides the products, the credit of the departure and the landing chunk, -/
def lin2 (r : Fin 8) : PP F :=
  iprop(some32 (F := F) c sM r ∗ (∃ X, owns (c : Thread nD τ) (oM.slice (rOwn c r) (fun _ => rfl)) fullShare X)
    ∗ dutyTok ER (dCell c 2 r) 0 false ∗ dutyTok ER (dCell (yp c) 3 r) 0 false
    ∗ atPos ER (dCell c 0 r) 0 ∅ 0 ∗ atPos ER (dCell c 1 r) 0 ∅ 0 ∗ cred (tallyAt (dCell c 1 r) () N))
/-- and the third besides the credit of the departure. -/
def lin3 (r : Fin 8) : PP F :=
  iprop((∃ X, owns (c : Thread nD τ) (oM.slice (rOther c r) (fun _ => rfl)) fullShare X)
    ∗ atPos ER (dCell c 2 r) 0 ∅ 0 ∗ atPos ER (dCell c 3 r) 0 ∅ 0 ∗ cred (tallyAt (dCell c 3 r) () N))

/-- What the first step leaves of a chunk, -/
def done1 (r : Fin 8) : PP F :=
  iprop(owns (c : Thread nD τ) (ch pM r) fullShare.right (prodV m c r) ∗ cred (tallyAt (dCell c 0 r) () N))
/-- what the second leaves besides the credit of the departure. -/
def done2 (r : Fin 8) : PP F :=
  iprop(owns (c : Thread nD τ) (ch pM r) fullShare (prodV m c r) ∗ owns (c : Thread nD τ) (ch xM r) fullShare (prodV m (xp c) r)
    ∗ owns (c : Thread nD τ) (oM.slice (rOwn c r) (fun _ => rfl)) fullShare (ownV m c r)
    ∗ semVal (dCell c 0 r) 0 ∗ semVal (dCell c 1 r) 0)

/-- Before the run: the records; the operands; what each step needs of each chunk; the two landing buffers, to give away; the
    barrier's tokens, position and credit; everything owed. -/
def runPre : PP F :=
  iprop(records m K ∗ opnds m c ∗ (bigSep Finset.univ fun r => some32 (F := F) c xM r) ∗ (bigSep Finset.univ fun r => some32 (F := F) c yM r)
    ∗ bigSep Finset.univ (lin1 c) ∗ bigSep Finset.univ (lin2 c) ∗ bigSep Finset.univ (lin3 c)
    ∗ (dutyTok ER (barCell (xp c)) 0 false ∗ dutyTok ER (barCell (yp c)) 0 true ∗ atPos ER (barCell c) 0 ∅ 0 ∗ cred (tallyAt (barCell c) () 2))
    ∗ obl c (O₀ c))

/-- After it: the operands, each chunk's buffers and semaphores, the barrier semaphore at zero, nothing owed. -/
def runPost : PP F :=
  iprop(opnds m c ∗ bigSep Finset.univ (done2 m c) ∗ bigSep Finset.univ (copyPost m c) ∗ semVal (barCell c) 0 ∗ obl c 0)

/-! ## The phases -/

/-- What the first phase carries, the chunks `rs` to come: the records, the operands, what is owed. -/
def inv1 (rs : List (Fin 8)) : PP F := iprop(records m K ∗ opnds m c ∗ obl c (owX c rs + owY c [0, 1, 2, 3, 4, 5, 6, 7]))
def inv2 (rs : List (Fin 8)) : PP F := iprop(records m K ∗ obl c (owY c rs))
def inv3 (_ : List (Fin 8)) : PP F := iprop(records m K ∗ obl c 0)

/-- A chunk sent once its product is stored. -/
theorem send_chunk (r : Fin 8) (rs : List (Fin 8)) (Q : PUnit → PP F) :
    iprop((owns (c : Thread nD τ) (ch pM r) fullShare (prodV m c r) ∗ dutyTok ER (dCell c 0 r) 0 false ∗ dutyTok ER (dCell (xp c) 1 r) 0 false
        ∗ some32 (F := F) (xp c) xM r) ∗ inv1 m K c (r :: rs))
      ⊢ iprop((done1 m c r ∗ inv1 m K c rs -∗ Q ⟨⟩) -∗ wpD c (xSend (xp c) r) Q) := by
  unfold inv1 done1
  iintro ⟨⟨Hp, Ht, Ht', Hx⟩, ⟨#HR, Hab, HO⟩⟩ Hk
  iapply (xSend_step m K c r rs (owY c [0, 1, 2, 3, 4, 5, 6, 7])) $$ [Hp Hx HO Ht Ht']
  · isplitr; · iexact HR
    isplitl [Hp]; · iexact Hp
    isplitl [Hx]; · iexact Hx
    isplitl [HO]; · iexact HO
    isplitl [Ht]; · iexact Ht
    iexact Ht'
  iintro ⟨Hp, Hc, HO⟩
  iapply Hk
  isplitl [Hp Hc]; · isplitl [Hp] <;> iassumption
  isplitr; · iexact HR
  isplitl [Hab]; · iexact Hab
  iexact HO

/-- A chunk's product stored, the operands kept. -/
theorem dot_chunk (r : Fin 8) (Q : PUnit → PP F) :
    iprop(some32 (F := F) c pM r ∗ opnds m c)
      ⊢ iprop((owns (c : Thread nD τ) (ch pM r) fullShare (prodV m c r) ∗ opnds m c -∗ Q ⟨⟩) -∗ wpD c (dotStep c r) Q) := by
  unfold opnds
  iintro ⟨Hp, Ha, Hb⟩ Hk
  iapply (dot_step m c r) $$ [Hp Ha Hb]
  · isplitl [Ha]; · iexact Ha
    isplitl [Hb]; · iexact Hb
    iexact Hp
  iintro ⟨Ha, Hb, Hp⟩
  iapply Hk
  isplitl [Hp]; · iexact Hp
  isplitl [Ha] <;> iassumption

theorem phase1 (r : Fin 8) (rs : List (Fin 8)) (Q : PUnit → PP F) :
    iprop((lin1 c r ∗ some32 (F := F) (xp c) xM r) ∗ inv1 m K c (r :: rs))
      ⊢ iprop((done1 m c r ∗ inv1 m K c rs -∗ Q ⟨⟩) -∗ wpD c (dotStep c r >>= fun _ => xSend (xp c) r) Q) := by
  rw [wpD_bind]
  unfold lin1
  iintro ⟨⟨⟨Hp, Ht, Ht'⟩, Hx⟩, HI⟩ Hk
  ihave HI := (show inv1 m K c (r :: rs) ⊢ iprop(records m K ∗ opnds m c ∗ obl c (owX c (r :: rs) + owY c [0, 1, 2, 3, 4, 5, 6, 7])) from BI.Entails.refl _) $$ HI
  icases HI with ⟨#HR, Hab, HO⟩
  iapply (dot_chunk m c r) $$ [Hp Hab]
  · isplitl [Hp] <;> iassumption
  iintro ⟨Hp, Hab⟩
  iapply (send_chunk m K c r rs Q) $$ [Hp Hab Hx Ht Ht' HO]
  · isplitl [Hp Hx Ht Ht']
    · isplitl [Hp]; · iexact Hp
      isplitl [Ht]; · iexact Ht
      isplitl [Ht']; · iexact Ht'
      iexact Hx
    unfold inv1
    isplitr; · iexact HR
    isplitl [Hab]; · iexact Hab
    iexact HO
  iexact Hk

theorem phase2 (r : Fin 8) (rs : List (Fin 8)) (Q : PUnit → PP F) :
    iprop(sumPre m c r ∗ inv2 m K c (r :: rs)) ⊢ iprop((sumPost m c r ∗ inv2 m K c rs -∗ Q ⟨⟩) -∗ wpD c (sumStep c (yp c) r) Q) := by
  unfold inv2
  iintro ⟨HP, ⟨#HR, HO⟩⟩ Hk
  iapply (sum_step m K c r rs) $$ [HP HO]
  · isplitr; · iexact HR
    isplitl [HP] <;> iassumption
  iintro ⟨HP, HO⟩
  iapply Hk
  isplitl [HP]; · iexact HP
  isplitr; · iexact HR
  iexact HO

theorem phase3 (r : Fin 8) (rs : List (Fin 8)) (Q : PUnit → PP F) :
    iprop(copyPre c r ∗ inv3 m K c (r :: rs)) ⊢ iprop((copyPost m c r ∗ inv3 m K c rs -∗ Q ⟨⟩) -∗ wpD c (copyStep c r) Q) := by
  unfold inv3
  iintro ⟨HP, ⟨#HR, HO⟩⟩ Hk
  iapply (copy_step m K c r) $$ [HP HO]
  · isplitr; · iexact HR
    isplitl [HP] <;> iassumption
  iintro ⟨HP, HO⟩
  iapply Hk
  isplitl [HP]; · iexact HP
  isplitr; · iexact HR
  iexact HO

/-- The second step's needs, assembled. -/
theorem sumPre_intro (r : Fin 8) : iprop(done1 m c r ∗ lin2 c r ∗ some32 (F := F) (yp c) yM r) ⊢ sumPre m c r := by
  unfold done1 lin2 sumPre
  iintro ⟨⟨Hp, Hc0⟩, ⟨Hs, Ho, Ht, Ht', Ha0, Ha1, Hc1⟩, Hy⟩
  isplitl [Hp]; · iexact Hp
  isplitl [Hc0]; · iexact Hc0
  isplitl [Hs]; · iexact Hs
  isplitl [Ho]; · iexact Ho
  isplitl [Hy]; · iexact Hy
  isplitl [Ht]; · iexact Ht
  isplitl [Ht']; · iexact Ht'
  isplitl [Ha0]; · iexact Ha0
  isplitl [Ha1] <;> iassumption

theorem sumPost_elim (r : Fin 8) : sumPost m c r ⊢ iprop(done2 m c r ∗ cred (tallyAt (dCell c 2 r) () N)) := by
  unfold sumPost done2
  iintro ⟨Hp, Hx, Ho, Hc, Hz0, Hz1⟩
  isplitr [Hc]
  · isplitl [Hp]; · iexact Hp
    isplitl [Hx]; · iexact Hx
    isplitl [Ho]; · iexact Ho
    isplitl [Hz0] <;> iassumption
  iexact Hc

theorem copyPre_intro (r : Fin 8) : iprop(cred (tallyAt (dCell c 2 r) () N) ∗ lin3 (F := F) c r) ⊢ copyPre c r := by
  unfold copyPre lin3; exact BI.Entails.refl _

/-- A device waits at its barrier while it owes the transfers only. -/
theorem mayWait_bar : (levAts L lv : PP F) ⊢ MayWait (c : Thread nD τ) (.reg barS) () (O₂ c) :=
  mayWait_below c _ _ 1 (lv_bar c ()) fun g u h => O₂_pos h

/-- The barrier: both peers signalled with the landing buffers, the first product stored meanwhile, and the peers' landing
    buffers received. -/
theorem run_body (Q : PUnit → PP F) : iprop(runPre m K c) ⊢ iprop((runPost m c -∗ Q ⟨⟩) -∗ wpD c (body (F := F)) Q) := by
  unfold runPre runPost body
  simp only [semSignalWord, semWaitWord, Prog.lift, Prog.bind_op, Prog.bind_ret, Prog.pure_eq_ret, wp_deviceId]
  rw [dev1_eq, dev2_eq, dev3_eq, dev11_eq]
  iintro ⟨#HR, Hab, Hx, Hy, H1, H2, H3, ⟨Htx, Hty, Hat, Hc⟩, HO⟩ Hk
  ihave HO := (show obl c (O₀ c) ⊢ (iprop(∃ W, owes (c : Thread nD τ) (O₀ c) W) : PP F) from BI.Entails.refl _) $$ HO
  icases HO with ⟨%W, HO⟩
  -- the signal to `xp c`, with the buffer of first arrivals
  iapply (Rounds.wp_signal 𝒱₀ ER (sched m) (c : Thread nD τ) none (dst := (xp c : Thread nD τ)) (κ := K (xp c, none)) (r := 0)
      (d := false) (by rw [duties_bar]; exact Finset.mem_univ _) ((amount_bar m (xp c) false).trans (by decide)) () (O₁ c) rfl) $$ [HO Htx Hx]
  · isplitr; · iapply (inv_at m K (xp c, none)); iexact HR
    isplitl [HO]; · iexact HO
    isplitl [Htx]; · iexact Htx
    isplitl [Hx]; · rw [payload_bar_false]; unfold xGift; rw [xp_xp]; iexact Hx
    iapply (reached_at m K (xp c, none)); iexact HR
  iintro HO
  -- the signal to `yp c`, with the buffer of second arrivals
  unfold O₁
  iapply (Rounds.wp_signal 𝒱₀ ER (sched m) (c : Thread nD τ) none (dst := (yp c : Thread nD τ)) (κ := K (yp c, none)) (r := 0)
      (d := true) (by rw [duties_bar]; exact Finset.mem_univ _) ((amount_bar m (yp c) true).trans (by decide)) () (O₂ c) rfl) $$ [HO Hty Hy]
  · isplitr; · iapply (inv_at m K (yp c, none)); iexact HR
    isplitl [HO]; · iexact HO
    isplitl [Hty]; · iexact Hty
    isplitl [Hy]; · rw [payload_bar_true]; unfold yGift; rw [yp_yp]; iexact Hy
    iapply (reached_at m K (yp c, none)); iexact HR
  iintro HO
  -- the first product
  ihave H1 := (Entails.of_eq ((chunks_eq (lin1 c)).trans (bigSepL_cons' _ _ _))) $$ H1
  icases H1 with ⟨Hf, H1⟩
  unfold lin1
  icases Hf with ⟨Hp, Ht, Ht'⟩
  rw [wp_bind]
  iapply (dot_chunk m c 0) $$ [Hp Hab]
  · isplitl [Hp] <;> iassumption
  iintro ⟨Hp, Hab⟩
  -- the wait at the barrier: the peers' landing buffers come
  iapply (Rounds.wp_wait_rest_token 𝒱₀ ER (sched m) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (inv_at m K (c, none)); iexact HR
    isplitl [Hc]; · iexact Hc
    isplitl [HO]; · iexact HO
    isplitr; · iapply (mayWait_bar c); iapply (lev_at m K); iexact HR
    iexact Hat
  iintro ⟨HO, Hat, -, Hpay⟩
  imod (Rounds.cell_close ER (sched m) (Set.mem_univ (K (c, none))) (fun h => h) (R := 0 + 1) (duties_later m (barCell c))) $$ [Hat] with HzB
  · isplitr; · iapply (inv_at m K (c, none)); iexact HR
    iexact Hat
  ihave Hpay := (Entails.of_eq (rest_bar m c)) $$ Hpay
  unfold xGift yGift
  icases Hpay with ⟨Hx, Hy⟩
  ihave Hx := (Entails.of_eq ((chunks_eq _).trans (bigSepL_cons' _ _ _))) $$ Hx
  icases Hx with ⟨Hx0, Hx⟩
  -- the first phase
  rw [wp_bind]
  iapply (send_chunk m K c 0 [1, 2, 3, 4, 5, 6, 7]) $$ [Hp Ht Ht' Hx0 Hab HO]
  · isplitl [Hp Ht Ht' Hx0]
    · isplitl [Hp]; · iexact Hp
      isplitl [Ht]; · iexact Ht
      isplitl [Ht']; · iexact Ht'
      iexact Hx0
    unfold inv1 obl
    isplitr; · iexact HR
    isplitl [Hab]; · iexact Hab
    iexists _; iexact HO
  iintro ⟨Hd0, HI⟩
  rw [wp_bind]
  iapply (each_rule c _ _ (done1 m c) (inv1 m K c) (phase1 m K c) [1, 2, 3, 4, 5, 6, 7]) $$ [H1 Hx HI]
  · isplitr [HI]
    · iapply (listed_zip [1, 2, 3, 4, 5, 6, 7] (lin1 c) (fun r => some32 (F := F) (xp c) xM r))
      isplitl [H1]
      · iexact H1
      iexact Hx
    iexact HI
  iintro ⟨Hd, HI⟩
  ihave HI := (show inv1 m K c [] ⊢ iprop(records m K ∗ opnds m c ∗ obl c (0 + owY c [0, 1, 2, 3, 4, 5, 6, 7])) from BI.Entails.refl _) $$ HI
  icases HI with ⟨-, Hab, HO⟩
  rw [zero_add]
  ihave Hd : (bigSep Finset.univ (done1 m c) : PP F) $$ [Hd0 Hd]
  · iapply (Entails.of_eq ((chunks_eq (done1 m c)).trans (bigSepL_cons' _ _ _)).symm)
    isplitl [Hd0] <;> iassumption
  -- the second phase
  ihave Hs : (bigSep Finset.univ (sumPre m c) : PP F) $$ [Hd H2 Hy]
  · iapply (chunks_zip (done1 m c) (fun r => iprop(lin2 c r ∗ some32 (F := F) (yp c) yM r)) (sumPre m c) (sumPre_intro m c))
    isplitl [Hd]; · iexact Hd
    iapply (chunks_zip (lin2 c) (fun r => some32 (F := F) (yp c) yM r) _ fun r => BI.Entails.refl _)
    isplitl [H2] <;> iassumption
  rw [wp_bind]
  ihave Hs := (Entails.of_eq (chunks_eq (sumPre m c))) $$ Hs
  iapply (each_rule c _ (sumPre m c) (sumPost m c) (inv2 m K c) (phase2 m K c) [0, 1, 2, 3, 4, 5, 6, 7]) $$ [Hs HO]
  · isplitl [Hs]; · iexact Hs
    unfold inv2
    isplitr; · iexact HR
    iexact HO
  iintro ⟨Hs, HI⟩
  ihave HI := (show inv2 m K c [] ⊢ iprop(records m K ∗ obl c 0) from BI.Entails.refl _) $$ HI
  icases HI with ⟨-, HO⟩
  ihave Hs := (Entails.of_eq (chunks_eq (sumPost m c)).symm) $$ Hs
  ihave Hs := (chunks_unzip (done2 m c) (fun r => cred (tallyAt (dCell c 2 r) () N)) (sumPost m c) (sumPost_elim m c)) $$ Hs
  icases Hs with ⟨Hd, Hcr⟩
  -- the third phase
  ihave Hc : (bigSep Finset.univ (copyPre (F := F) c) : PP F) $$ [Hcr H3]
  · iapply (chunks_zip (fun r => cred (tallyAt (dCell c 2 r) () N)) (lin3 c) (copyPre c) (copyPre_intro c))
    isplitl [Hcr] <;> iassumption
  ihave Hc := (Entails.of_eq (chunks_eq (copyPre c))) $$ Hc
  iapply (each_rule c _ (copyPre c) (copyPost m c) (inv3 m K c) (phase3 m K c) [0, 1, 2, 3, 4, 5, 6, 7]) $$ [Hc HO]
  · isplitl [Hc]; · iexact Hc
    unfold inv3
    isplitr; · iexact HR
    iexact HO
  iintro ⟨Hc, HI⟩
  ihave HI := (show inv3 m K c [] ⊢ iprop(records m K ∗ obl c 0) from BI.Entails.refl _) $$ HI
  icases HI with ⟨-, HO⟩
  ihave Hc := (Entails.of_eq (chunks_eq (copyPost m c)).symm) $$ Hc
  iapply Hk
  isplitl [Hab]; · iexact Hab
  isplitl [Hd]; · iexact Hd
  isplitl [Hc]; · iexact Hc
  isplitl [HzB] <;> iassumption

end Run

end Cert.MeshMatmul
-- ==== Proof.Deal.lean ====
/-
  What the launch deals the four devices: every device its cells' invariants and positions, the tokens of the duties it
  pays, and the credits at its barrier and at its arrival cells, counted out of what the devices owe.
-/
module

public import proofs.«01_k».proof.Proof.Phases

@[expose] public section

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory the run starts from: every semaphore at zero. -/
def s₀ : MemSt nD τ sig (Elt F) := ⟨m, fun _ => 0, ρ⟩

/-! ## Conjunctions over kinds, options and sums -/

theorem kinds_eq (Φ : Fin 4 → PP F) : bigSep Finset.univ Φ = iprop(Φ 0 ∗ Φ 1 ∗ Φ 2 ∗ Φ 3) :=
  bigSep_univ_eq_bigSepL [0, 1, 2, 3] (by decide) (by decide) Φ
theorem bools_eq (Φ : Bool → PP F) : bigSep Finset.univ Φ = iprop(Φ false ∗ Φ true) :=
  bigSep_univ_eq_bigSepL [false, true] (by decide) (by decide) Φ
theorem option_eq {I : Type} [Fintype I] [DecidableEq I] (Φ : Option I → PP F) :
    bigSep Finset.univ Φ = iprop(Φ none ∗ bigSep Finset.univ fun i => Φ (some i)) := by
  rw [bigSep_univ_equiv (Equiv.optionEquivSumPUnit.{0, 0} I).symm Φ, bigSep_univ_sum, bigSep_univ_of_subsingleton PUnit.unit]
  exact BI.equiv_iff.mp ⟨BI.sep_comm, BI.sep_comm⟩
/-- A conjunction over a type gives the one over any part of it. -/
theorem part_of {I J : Type} [Fintype I] [Fintype J] [DecidableEq J] (f : I ↪ J) (Φ : J → PP F) :
    bigSep Finset.univ Φ ⊢ bigSep Finset.univ fun i => Φ (f i) := by
  have h : bigSep (Finset.univ.map f) Φ = bigSep Finset.univ fun i => Φ (f i) := bigSep_map f
  exact (bigSep_subset (Finset.subset_univ (Finset.univ.map f))).trans (Entails.of_eq h)

/-! ## The cells -/

/-- The kernel's own semaphores. -/
abbrev osem : Fin 4 × Fin 8 → SemLoc sig := fun kr => .dma (dS kr.1 kr.2)
theorem ownSemFacts : Pipeline.OwnSemFacts cfg0.spec osem := by decide +kernel

theorem dS_inj {k k' : Fin 4} {r r' : Fin 8} (h : dS k r = dS k' r') : k = k' ∧ r = r' :=
  ⟨by rw [← kOf_dS k r, h, kOf_dS], by rw [← rOf_dS k r, h, rOf_dS]⟩
theorem dCell_inj {c c' : Dev nD} {k k' : Fin 4} {r r' : Fin 8} (h : dCell c k r = dCell c' k' r') : c = c' ∧ k = k' ∧ r = r' := by
  have h1 : c = c' := congrArg (fun g : GSem nD τ sig => g.1.1) h
  have h2 : (SemLoc.dma (dS k r) : SemLoc sig) = .dma (dS k' r') := congrArg Prod.snd h
  exact ⟨h1, dS_inj (SemLoc.dma.inj h2)⟩
theorem bar_inj {c c' : Dev nD} (h : barCell c = barCell c') : c = c' := congrArg (fun g : GSem nD τ sig => g.1.1) h
theorem dCell_ne_bar {c c' : Dev nD} {k : Fin 4} {r : Fin 8} : dCell c k r ≠ barCell c' := fun h => by cases congrArg Prod.snd h

theorem cellAt_injective : Function.Injective cellAt := by
  rintro ⟨c, _ | ⟨k, r⟩⟩ ⟨c', _ | ⟨k', r'⟩⟩ h
  · have hc : c = c' := bar_inj h
    rw [hc]
  · exact absurd h.symm dCell_ne_bar
  · exact absurd h dCell_ne_bar
  · obtain ⟨rfl, rfl, rfl⟩ := dCell_inj h; rfl
def allCells : Finset (GSem nD τ sig) := Finset.univ.map ⟨cellAt, cellAt_injective⟩

/-! ## The duty tokens -/

/-- The duties of a device's cells: the barrier's two, and each transfer cell's one. -/
abbrev TI : Type := Bool ⊕ (Fin 4 × Fin 8)
def tokOf (p : Dev nD × TI) : GSem nD τ sig × ℕ × Bool := match p.2 with
  | .inl d => (barCell p.1, 0, d)
  | .inr kr => (dCell p.1 kr.1 kr.2, 0, false)
theorem tokOf_injective : Function.Injective tokOf := by
  rintro ⟨c, d | ⟨k, r⟩⟩ ⟨c', d' | ⟨k', r'⟩⟩ h
  · have hc : c = c' := bar_inj (congrArg Prod.fst h)
    have hd : d = d' := congrArg (fun x : GSem nD τ sig × ℕ × Bool => x.2.2) h
    rw [hc, hd]
  · exact absurd (congrArg Prod.fst h).symm dCell_ne_bar
  · exact absurd (congrArg Prod.fst h) dCell_ne_bar
  · obtain ⟨rfl, rfl, rfl⟩ := dCell_inj (congrArg Prod.fst h); rfl
def allToks : Finset (GSem nD τ sig × ℕ × Bool) := Finset.univ.map ⟨tokOf, tokOf_injective⟩

/-- Whose cell's duty a device pays: its own at a departure, a peer's at an arrival and at the barrier. -/
def payee : TI → (Dev nD ≃ Dev nD)
  | .inl false => xSwap
  | .inl true => ySwap
  | .inr kr => match kr.1 with
    | 0 => Equiv.refl _
    | 1 => xSwap
    | 2 => Equiv.refl _
    | 3 => ySwap

/-- The token of a duty. -/
abbrev tok (p : Dev nD × TI) : PP F := dutyTok ER (tokOf p).1 (tokOf p).2.1 (tokOf p).2.2
/-- The tokens of a device's own cells' duties, and of the duties it pays. -/
def toks (c : Dev nD) : PP F := bigSep Finset.univ fun i => tok (c, i)
def payToks (c : Dev nD) : PP F := bigSep Finset.univ fun i => tok (payee i c, i)

/-- Every token goes to the device that pays its duty. -/
theorem toks_around : (bigSep Finset.univ fun c => toks (F := F) c) = bigSep Finset.univ fun c => payToks (F := F) c := by
  unfold toks payToks
  rw [bigSep_univ_comm, bigSep_univ_comm (fun (c : Dev nD) i => tok (F := F) (payee i c, i))]
  exact bigSep_congr fun i _ => bigSep_univ_equiv (payee i) fun c => tok (c, i)

theorem payToks_eq (c : Dev nD) : payToks (F := F) c =
    iprop((dutyTok ER (barCell (xp c)) 0 false ∗ dutyTok ER (barCell (yp c)) 0 true)
      ∗ (bigSep Finset.univ fun r => dutyTok ER (dCell c 0 r) 0 false) ∗ (bigSep Finset.univ fun r => dutyTok ER (dCell (xp c) 1 r) 0 false)
      ∗ (bigSep Finset.univ fun r => dutyTok ER (dCell c 2 r) 0 false) ∗ (bigSep Finset.univ fun r => dutyTok ER (dCell (yp c) 3 r) 0 false)) := by
  unfold payToks
  rw [bigSep_univ_sum, bools_eq, bigSep_univ_prod, kinds_eq]
  rfl

/-! ## The ghost state at launch -/

def u₀ : UU := (initOf (Pipeline.cells cfgs cellOf_inj) (Pipeline.launchToks cfgs cellOf_inj), initOf allCells allToks)

/-- A device's positions at its cells. -/
def posns (c : Dev nD) : PP F := bigSep Finset.univ fun i : CI => atPos ER (cellAt (c, i)) 0 ∅ 0
theorem posns_eq (c : Dev nD) : posns (F := F) c =
    iprop(atPos ER (barCell c) 0 ∅ 0
      ∗ (bigSep Finset.univ fun r => atPos ER (dCell c 0 r) 0 ∅ 0) ∗ (bigSep Finset.univ fun r => atPos ER (dCell c 1 r) 0 ∅ 0)
      ∗ (bigSep Finset.univ fun r => atPos ER (dCell c 2 r) 0 ∅ 0) ∗ (bigSep Finset.univ fun r => atPos ER (dCell c 3 r) 0 ∅ 0)) := by
  unfold posns
  rw [option_eq, bigSep_univ_prod, kinds_eq]
  rfl

/-- What the launch element deals a device: its cells' states, positions and first rounds, and its cells' tokens. -/
def G (c : Dev nD) : PP F :=
  iprop((bigSep Finset.univ fun i : CI => roundState ER (sched m) (cellAt (c, i)) 0)
    ∗ posns c ∗ (bigSep Finset.univ fun i : CI => reached ER (cellAt (c, i)) 0) ∗ toks c)

/-- What every device holds once the cells' invariants are made. -/
def shared (K : Dev nD × CI → ℕ) : PP F :=
  iprop((bigSep Finset.univ fun p => cellInv ER (sched (F := F) m) (K p) (cellAt p)) ∗ bigSep Finset.univ fun p => reached ER (cellAt p) 0)
instance shared_persistent (K : Dev nD × CI → ℕ) : BI.Persistent (shared m K) := by unfold shared; infer_instance
def G' (c : Dev nD) : PP F := iprop(∃ K, shared m K ∗ posns c ∗ payToks c)

theorem fund_cells : BI.own (ER (F := F) (initOf allCells allToks)) ⊢ (|==> bigSep Finset.univ (G m) : PP F) := by
  have hX (Φ : GSem nD τ sig → PP F) : bigSep allCells Φ = bigSep Finset.univ fun c : Dev nD => bigSep Finset.univ fun i : CI => Φ (cellAt (c, i)) := by
    unfold allCells; rw [bigSep_map, bigSep_univ_prod]; rfl
  have hT : bigSep allToks (fun x => (dutyTok ER x.1 x.2.1 x.2.2 : PP F)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posns; simp only [bigSep_sep']
  isplitl [Hst]; · iexact Hst
  isplitl [Hat]; · iexact Hat
  isplitl [Hr]; · iexact Hr
  iexact Htok

/-- The barrier semaphore is the launch's one unscoped semaphore. -/
theorem unscopedSems0_eq (c : Dev nD) : (unscopedSems0 c : PP F) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : PP F)
    = iprop((bigSep Finset.univ fun r => semVal (dCell c 0 r) 0) ∗ (bigSep Finset.univ fun r => semVal (dCell c 1 r) 0)
      ∗ (bigSep Finset.univ fun r => semVal (dCell c 2 r) 0) ∗ (bigSep Finset.univ fun r => semVal (dCell c 3 r) 0)) := by
  unfold Pipeline.ownSems0
  rw [bigSep_univ_prod, kinds_eq]

theorem sems0 (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cellAt (c, i)) 0 : PP F) := by
  rw [unscopedSems0_eq, option_eq]
  unfold Pipeline.ownSems0
  iintro ⟨HO, HB⟩
  isplitl [HB]; · iexact HB
  iexact HO

/-- A device's cells' invariants made. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (sched m) κ (cellAt (c, i))))
          ∗ posns c ∗ (bigSep Finset.univ fun i : CI => reached ER (cellAt (c, i)) 0) ∗ toks c) := by
  unfold G
  iintro ⟨Hos, Hus, Hst, Hrest⟩
  ihave Hv := (sems0 (F := F) c) $$ [Hos Hus]
  · isplitl [Hos] <;> iassumption
  imod (show iprop((bigSep Finset.univ fun i : CI => semVal (cellAt (c, i)) 0) ∗ bigSep Finset.univ fun i : CI => roundState ER (sched m) (cellAt (c, i)) 0)
      ⊢ (|={Set.univ}=> bigSep Finset.univ fun i : CI => iprop(∃ κ : ℕ, cellInv ER (sched m) κ (cellAt (c, i))) : PP F) from by
        rw [← bigSep_sep']
        exact (bigSep_mono fun i _ => (Rounds.body_intro ER (sched m) (cellAt (c, i))).trans inv_alloc).trans (bigSep_fupd _ _)) $$ [Hv Hst] with Hinv
  · isplitl [Hv] <;> iassumption
  imodintro
  isplitl [Hinv]; · iexact Hinv
  iexact Hrest

theorem deal (K : Dev nD × CI → ℕ) :
    iprop(shared m K ∗ bigSep Finset.univ fun c : Dev nD => iprop(posns (F := F) c ∗ payToks c)) ⊢ bigSep Finset.univ (G' m) := by
  refine (BIClass.sep_mono (BI.bigSep_of_persistent (Finset.univ : Finset (Dev nD)) (shared m K)) (BI.Entails.refl _)).trans ?_
  rw [← bigSep_sep']
  refine bigSep_mono fun c _ => ?_
  unfold G'
  exact exists_intro (Φ := fun K => iprop(shared m K ∗ posns c ∗ payToks c)) K

theorem regroup :
    (bigSep Finset.univ fun c : Dev nD => iprop((bigSep Finset.univ fun i : CI => iprop(∃ κ : ℕ, cellInv ER (sched m) κ (cellAt (c, i))))
          ∗ posns c ∗ (bigSep Finset.univ fun i : CI => reached ER (cellAt (c, i)) 0) ∗ toks c) : PP F)
      ⊢ bigSep Finset.univ (G' m) := by
  rw [bigSep_sep', bigSep_sep', bigSep_sep', ← bigSep_univ_prod (fun p : Dev nD × CI => (iprop(∃ κ : ℕ, cellInv ER (sched m) κ (cellAt p)) : PP F)),
    ← bigSep_univ_prod (fun p : Dev nD × CI => (reached ER (cellAt p) 0 : PP F)), toks_around]
  iintro ⟨HI, Hat, HR, Htok⟩
  ihave HK := (BI.bigSep_exists_pi Finset.univ (fun (p : Dev nD × CI) (κ : ℕ) => (cellInv ER (sched m) κ (cellAt p) : PP F))) $$ HI
  icases HK with ⟨%K, HI⟩
  iapply (deal m K)
  isplitl [HI HR]
  · unfold shared; isplitl [HI] <;> iassumption
  iapply (Entails.of_eq (bigSep_sep' Finset.univ (posns (F := F)) payToks).symm)
  isplitl [Hat] <;> iassumption

/-- Every device's cells at once. -/
theorem glob : (bigSep Finset.univ fun c => iprop(Pipeline.ownSems0 (Ix := Unit) (Name := ℕ) (U := UU) (Lvl := ℕ) (Val := Elt F) (τ := τ) osem c ∗ unscopedSems0 c ∗ G m c) : PP F)
    ⊢ |={Set.univ}=> bigSep Finset.univ (G' m) :=
  ((bigSep_mono fun c _ => core_alloc m c).trans (bigSep_fupd _ _)).trans (BI.fupd_mono (regroup m))

/-! ## The credit at launch -/

theorem owX_apply (d : Dev nD) (g : GSem nD τ sig) : owX d [0, 1, 2, 3, 4, 5, 6, 7] g () = ∑ r : Fin 8, if g = dCell (xp d) 1 r then N else 0 := by
  show (([0, 1, 2, 3, 4, 5, 6, 7] : List (Fin 8)).map fun r => (tallyAt (dCell (xp d) 1 r) () N : CellTallies nD τ sig Unit)).sum g () = _
  rw [show ([0, 1, 2, 3, 4, 5, 6, 7] : List (Fin 8)) = List.finRange 8 from rfl, ← Fin.sum_univ_def, Finset.sum_apply, Finsupp.finset_sum_apply]
  exact Finset.sum_congr rfl fun r _ => by rw [tallyAt_apply]; simp only [and_true]
theorem owY_apply (d : Dev nD) (g : GSem nD τ sig) : owY d [0, 1, 2, 3, 4, 5, 6, 7] g () = ∑ r : Fin 8, if g = dCell (yp d) 3 r then N else 0 := by
  show (([0, 1, 2, 3, 4, 5, 6, 7] : List (Fin 8)).map fun r => (tallyAt (dCell (yp d) 3 r) () N : CellTallies nD τ sig Unit)).sum g () = _
  rw [show ([0, 1, 2, 3, 4, 5, 6, 7] : List (Fin 8)) = List.finRange 8 from rfl, ← Fin.sum_univ_def, Finset.sum_apply, Finsupp.finset_sum_apply]
  exact Finset.sum_congr rfl fun r _ => by rw [tallyAt_apply]; simp only [and_true]

/-- What a device owes at a cell, counted out. -/
theorem O₀_apply (d : Dev nD) (g : GSem nD τ sig) :
    O₀ d g () = (∑ r : Fin 8, if g = dCell (xp d) 1 r then N else 0) + (∑ r : Fin 8, if g = dCell (yp d) 3 r then N else 0)
      + (if g = barCell (yp d) then 1 else 0) + (if g = barCell (xp d) then 1 else 0) := by
  unfold O₀ O₁ O₂
  simp only [Pi.add_apply, Finsupp.add_apply]
  rw [owX_apply, owY_apply, tallyAt_apply, tallyAt_apply]
  simp only [and_true]

theorem xp_iff {d c : Dev nD} : c = xp d ↔ d = xp c := ⟨fun h => by rw [h, xp_xp], fun h => by rw [h, xp_xp]⟩
theorem yp_iff {d c : Dev nD} : c = yp d ↔ d = yp c := ⟨fun h => by rw [h, yp_yp], fun h => by rw [h, yp_yp]⟩

theorem owed_bar (d c : Dev nD) : O₀ d (barCell c) () = (if d = yp c then 1 else 0) + (if d = xp c then 1 else 0) := by
  rw [O₀_apply, Finset.sum_eq_zero fun r _ => if_neg fun h => dCell_ne_bar h.symm, Finset.sum_eq_zero fun r _ => if_neg fun h => dCell_ne_bar h.symm,
    Nat.zero_add, Nat.zero_add]
  congr 1
  · exact if_congr ⟨fun h => yp_iff.mp (bar_inj h), fun h => by rw [h, yp_yp]⟩ rfl rfl
  · exact if_congr ⟨fun h => xp_iff.mp (bar_inj h), fun h => by rw [h, xp_xp]⟩ rfl rfl

theorem owed_x (d c : Dev nD) (r : Fin 8) : O₀ d (dCell c 1 r) () = if d = xp c then N else 0 := by
  rw [O₀_apply, if_neg dCell_ne_bar, if_neg dCell_ne_bar, Finset.sum_eq_zero (f := fun r' => if dCell c 1 r = dCell (yp d) 3 r' then N else 0)
    fun r' _ => if_neg fun h => absurd (dCell_inj h).2.1 (by decide)]
  simp only [Nat.add_zero]
  rw [Finset.sum_eq_single r (fun r' _ hr => if_neg fun h => hr (dCell_inj h).2.2.symm) fun h => absurd (Finset.mem_univ _) h]
  exact if_congr ⟨fun h => xp_iff.mp (dCell_inj h).1, fun h => by rw [h, xp_xp]⟩ rfl rfl

theorem owed_y (d c : Dev nD) (r : Fin 8) : O₀ d (dCell c 3 r) () = if d = yp c then N else 0 := by
  rw [O₀_apply, if_neg dCell_ne_bar, if_neg dCell_ne_bar, Finset.sum_eq_zero (f := fun r' => if dCell c 3 r = dCell (xp d) 1 r' then N else 0)
    fun r' _ => if_neg fun h => absurd (dCell_inj h).2.1 (by decide)]
  simp only [Nat.add_zero, Nat.zero_add]
  rw [Finset.sum_eq_single r (fun r' _ hr => if_neg fun h => hr (dCell_inj h).2.2.symm) fun h => absurd (Finset.mem_univ _) h]
  exact if_congr ⟨fun h => yp_iff.mp (dCell_inj h).1, fun h => by rw [h, yp_yp]⟩ rfl rfl

/-- The credit a cell has at launch, from what each device owes there. -/
theorem launch_cell (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 2 : CellTallies nD τ sig Unit) :=
  launch_cell _ 2 (by
    rw [Finset.sum_congr rfl fun d _ => owed_bar d c, Finset.sum_add_distrib, Finset.sum_ite_eq' Finset.univ (yp c) fun _ => 1,
      Finset.sum_ite_eq' Finset.univ (xp c) fun _ => 1, if_pos (Finset.mem_univ _), if_pos (Finset.mem_univ _)])
theorem launch_x (c : Dev nD) (r : Fin 8) : tallyOn (dCell c 1 r) (launchCredit (Pipeline.owing O₀) 0 (dCell c 1 r)) = (tallyAt (dCell c 1 r) () N : CellTallies nD τ sig Unit) :=
  launch_cell _ N (by
    rw [Finset.sum_congr rfl fun d _ => owed_x d c r, Finset.sum_ite_eq' Finset.univ (xp c) fun _ => N, if_pos (Finset.mem_univ _)])
theorem launch_y (c : Dev nD) (r : Fin 8) : tallyOn (dCell c 3 r) (launchCredit (Pipeline.owing O₀) 0 (dCell c 3 r)) = (tallyAt (dCell c 3 r) () N : CellTallies nD τ sig Unit) :=
  launch_cell _ N (by
    rw [Finset.sum_congr rfl fun d _ => owed_y d c r, Finset.sum_ite_eq' Finset.univ (yp c) fun _ => N, if_pos (Finset.mem_univ _)])

def semAt : CI → SemLoc sig := fun i => match i with
  | none => .reg barS
  | some kr => .dma (dS kr.1 kr.2)
theorem semAt_injective : Function.Injective semAt := by
  rintro (_ | ⟨k, r⟩) (_ | ⟨k', r'⟩) h
  · rfl
  · cases h
  · cases h
  · obtain ⟨rfl, rfl⟩ := dS_inj (SemLoc.dma.inj h); rfl

/-- A device's credits: two units at its barrier, a chunk's units at each arrival cell. -/
def credits (c : Dev nD) : PP F :=
  iprop(cred (tallyAt (barCell c) () 2) ∗ (bigSep Finset.univ fun r => cred (tallyAt (dCell c 1 r) () N)) ∗ (bigSep Finset.univ fun r => cred (tallyAt (dCell c 3 r) () N)))

theorem creds (c : Dev nD) : (Pipeline.launchCred O₀ c : PP F) ⊢ credits c := by
  unfold Pipeline.launchCred credits
  refine (part_of ⟨semAt, semAt_injective⟩ _).trans ?_
  rw [option_eq, bigSep_univ_prod, kinds_eq]
  show iprop(cred (tallyOn (barCell c) (launchCredit (Pipeline.owing O₀) 0 (barCell c))) ∗ _
    ∗ (bigSep Finset.univ fun r => cred (tallyOn (dCell c 1 r) (launchCredit (Pipeline.owing O₀) 0 (dCell c 1 r)))) ∗ _
    ∗ (bigSep Finset.univ fun r => cred (tallyOn (dCell c 3 r) (launchCredit (Pipeline.owing O₀) 0 (dCell c 3 r))))) ⊢ _
  rw [launch_bar, bigSep_congr fun r _ => congrArg cred (launch_x c r), bigSep_congr fun r _ => congrArg cred (launch_y c r)]
  iintro ⟨H, -, H1, -, H3⟩
  isplitl [H]; · iexact H
  isplitl [H1] <;> iassumption

end Cert.MeshMatmul
-- ==== Proof.Run.lean ====
/-
  The run of the four devices: the kernel's body meets the launch library's obligation on each device, and every weakly
  fair execution ends with each device's result at `outAt`, the operands unchanged and every semaphore at zero — for any
  float values.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.MeshMatmul

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data of the launch -/

/-- What a device starts from besides its buffers. -/
def start (c : Dev nD) : PP F := iprop(G' m c ∗ credits c ∗ levAts L lv)

/-- The four scratch buffers, each whole at some contents. -/
def scratch (c : Dev nD) : PP F :=
  iprop((∃ f, owns (c : Thread nD τ) pM fullShare f) ∗ (∃ f, owns (c : Thread nD τ) xM fullShare f)
    ∗ (∃ f, owns (c : Thread nD τ) sM fullShare f) ∗ (∃ f, owns (c : Thread nD τ) yM fullShare f))

/-- A scratch buffer at some contents, as the launch states it. -/
theorem some_whole (c : Dev nD) (b : Ref sig .tc) :
    (iprop(∃ f, owns (c : Thread nD τ) (Memref.whole b) fullShare f) : PP F)
      = iprop(∃ f : Buf (Elt F) ((c : Thread nD τ).loc b), ((c : Thread nD τ).loc b) ↦{fullShare} f) := by
  simp only [owns_whole]

theorem scratch_eq (c : Dev nD) : (Pipeline.scopedRest spec0 c : PP F) = scratch c := by
  rw [scopedRest0_eq, ← some_whole, ← some_whole, ← some_whole, ← some_whole]
  rfl

def Φ₀ (c : Dev nD) : PP F := iprop(start m c ∗ scratch c)
def Φ₁ (c : Dev nD) : PP F :=
  iprop(scratch c ∗ ((bigSep Finset.univ fun r => semVal (dCell c 0 r) 0) ∗ (bigSep Finset.univ fun r => semVal (dCell c 1 r) 0)
      ∗ (bigSep Finset.univ fun r => semVal (dCell c 2 r) 0) ∗ (bigSep Finset.univ fun r => semVal (dCell c 3 r) 0)) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aStg m c
    | ⟨1, _⟩ => bStg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body on one device -/

/-- From the launch's state and the staged windows, to what the run needs. -/
theorem run_intro (c : Dev nD) (X : Vec F S512x512 .f32) :
    iprop(start m c ∗ scratch c ∗ obl c (O₀ c) ∗ opnds m c ∗ owns (c : Thread nD τ) oM fullShare X)
      ⊢ (iprop(∃ K, runPre m K c) : PP F) := by
  unfold start G' shared scratch credits
  rw [posns_eq, payToks_eq]
  iintro ⟨⟨⟨%K, ⟨HI, HR⟩, ⟨HaB, Ha0, Ha1, Ha2, Ha3⟩, Ht, H0, H1, H2, H3⟩, ⟨HcB, Hc1, Hc3⟩, HL⟩, ⟨⟨%fp, Hp⟩, ⟨%fx, Hx⟩, ⟨%fs, Hs⟩, ⟨%fy, Hy⟩⟩, HO, Hop, Hout⟩
  ihave Hp := (chunks_split c pM fp) $$ Hp
  ihave Hx := (chunks_split c xM fx) $$ Hx
  ihave Hs := (chunks_split c sM fs) $$ Hs
  ihave Hy := (chunks_split c yM fy) $$ Hy
  ihave Hout := (out_split c X) $$ Hout
  icases Hout with ⟨Hown, Hoth⟩
  icases Ht with ⟨HtX, HtY⟩
  iexists K
  unfold runPre records lin1 lin2 lin3
  simp only [bigSep_sep']
  isplitl [HI HR HL]
  · isplitl [HI]; · iexact HI
    isplitl [HR] <;> iassumption
  isplitl [Hop]; · iexact Hop
  isplitl [Hx]; · iexact Hx
  isplitl [Hy]; · iexact Hy
  isplitl [Hp H0 H1]
  · isplitl [Hp]; · iexact Hp
    isplitl [H0] <;> iassumption
  isplitl [Hs Hown H2 H3 Ha0 Ha1 Hc1]
  · isplitl [Hs]; · iexact Hs
    isplitl [Hown]; · iexact Hown
    isplitl [H2]; · iexact H2
    isplitl [H3]; · iexact H3
    isplitl [Ha0]; · iexact Ha0
    isplitl [Ha1] <;> iassumption
  isplitl [Hoth Ha2 Ha3 Hc3]
  · isplitl [Hoth]; · iexact Hoth
    isplitl [Ha2]; · iexact Ha2
    isplitl [Ha3] <;> iassumption
  isplitl [HtX HtY HaB HcB]
  · isplitl [HtX]; · iexact HtX
    isplitl [HtY]; · iexact HtY
    isplitl [HaB] <;> iassumption
  iexact HO

/-- What the run leaves, as the launch takes it back: the scratch buffers whole, every semaphore at zero, the result. -/
theorem run_elim (c : Dev nD) :
    runPost m c ⊢ (iprop(Φ₁ c ∗ obl c 0 ∗ opnds m c ∗ owns (c : Thread nD τ) oM fullShare (outAt m c)) : PP F) := by
  unfold runPost done2 copyPost
  simp only [bigSep_sep']
  iintro ⟨Hop, ⟨Hp, Hx, Hown, H0, H1⟩, ⟨Hs, Hy, Hoth, H2, H3⟩, HB, HO⟩
  ihave Hp := (chunks_join c pM _) $$ Hp
  ihave Hx := (chunks_join c xM _) $$ Hx
  ihave Hs := (chunks_join c sM _) $$ Hs
  ihave Hy := (chunks_join c yM _) $$ Hy
  ihave Hout := (out_join m c) $$ [Hown Hoth]
  · isplitl [Hown] <;> iassumption
  unfold Φ₁ scratch
  isplitl [Hp Hx Hs Hy H0 H1 H2 H3 HB]
  · isplitl [Hp Hx Hs Hy]
    · isplitl [Hp]; · iexact Hp
      isplitl [Hx]; · iexact Hx
      isplitl [Hs] <;> iassumption
    isplitl [H0 H1 H2 H3]
    · isplitl [H0]; · iexact H0
      isplitl [H1]; · iexact H1
      isplitl [H2] <;> iassumption
    iexact HB
  isplitl [HO]; · iexact HO
  isplitl [Hop] <;> iassumption

/-- What the pipeline has staged before the body: the operands. -/
theorem before_a (c : Dev nD) (t : Fin cfg0.N) (d) : (dats m ρ 0 c).before (0 : Fin 3) t d = aStg m c := by
  rw [show t = t0_0 from fin_N0 t]
  unfold Dat.before; rw [if_pos (fetch0_0 _)]; rfl
theorem before_b (c : Dev nD) (t : Fin cfg0.N) (d) : (dats m ρ 0 c).before (1 : Fin 3) t d = bStg m c := by
  rw [show t = t0_0 from fin_N0 t]
  unfold Dat.before; rw [if_pos (fetch0_1 _)]; rfl

set_option maxRecDepth 8000 in
/-- The launch library's obligation on a device. -/
theorem body_obligation (c : Dev nD) : BodyObligation (dats (F := F) m ρ 0 c) (defs₀ (F := F)) 𝒱₀ () Set.univ := fun t => by
  rw [show t = t0_0 from fin_N0 t]
  rw [bigSep_W0, bigSep_W0]
  show iprop(Φ₀ m c ∗ (dats m ρ 0 c).owesAt () (Fin.castSucc t0_0)
      ∗ (∃ d, owns (c : Thread nD τ) aM fullShare ((dats m ρ 0 c).before (0 : Fin 3) t0_0 d))
      ∗ (∃ d, owns (c : Thread nD τ) bM fullShare ((dats m ρ 0 c).before (1 : Fin 3) t0_0 d))
      ∗ (∃ d, owns (c : Thread nD τ) oM fullShare ((dats m ρ 0 c).before (2 : Fin 3) t0_0 d)))
    ⊢ wpD c (bodyAt0 t0_0) (fun _ => iprop(Φ₁ c ∗ (dats m ρ 0 c).owesAt () (Fin.succ t0_0)
      ∗ owns (c : Thread nD τ) aM fullShare (aStg m c) ∗ owns (c : Thread nD τ) bM fullShare (bStg m c) ∗ owns (c : Thread nD τ) oM fullShare (outAt m c)))
  simp only [before_a, before_b]
  unfold Φ₀ Dat.owesAt Pipeline.owesWithin
  iintro ⟨⟨Hst, Hscr⟩, ⟨%W, %hW, HO⟩, ⟨%d0, Ha⟩, ⟨%d1, Hb⟩, ⟨%d2, Hout⟩⟩
  ihave H := (run_intro m c _) $$ [Hst Hscr HO Ha Hb Hout]
  · isplitl [Hst]; · iexact Hst
    isplitl [Hscr]; · iexact Hscr
    isplitl [HO]; · unfold obl; iexists W; iexact HO
    unfold opnds
    isplitl [Ha Hb]; · isplitl [Ha] <;> iassumption
    iexact Hout
  icases H with ⟨%K, H⟩
  iapply (show iprop((runPost m c -∗ _) -∗ wpD c (body (F := F)) _) ⊢ iprop((runPost m c -∗ _) -∗ wpD c (bodyAt0 t0_0) _) from by rw [← body_eq]) $$ [H]
  · iapply (run_body m K c _) $$ H
  iintro Hpost
  ihave Hpost := (run_elim m c) $$ Hpost
  icases Hpost with ⟨H1, HO, Hop, Hout⟩
  unfold obl opnds
  icases HO with ⟨%W', HO⟩
  icases Hop with ⟨Ha, Hb⟩
  isplitl [H1]; · iexact H1
  isplitl [HO]
  · iexists W'
    isplitr; · ipureintro; exact fun _ _ => Or.inl trivial
    iexact HO
  isplitl [Ha]; · iexact Ha
  isplitl [Hb] <;> iassumption

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, HL, Hcr, -, HG⟩
  ihave Hcr := (creds (F := F) c) $$ Hcr
  imodintro
  unfold start
  isplitl
  · isplitl [HG]; · iexact HG
    isplitl [Hcr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (Entails.of_eq (scratch_eq c)); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ownSems0_eq, unscopedSems0_eq]
  unfold Φ₁
  iintro ⟨Hr, Hs, HB⟩
  isplitl [HB]; · iexact HB
  isplitl [Hs]; · iexact Hs
  iapply (Entails.of_eq (scratch_eq c).symm); iexact Hr

/-- The staging semaphores are at level 0, below everything owed. -/
theorem waits (c : Dev nD) : (levAts L lv : PP F) ⊢ Pipeline.cellsWaits cfgs (dats m ρ) () 0 c :=
  Pipeline.cellsWaits_intro cfgs (dats m ρ) () 0 c fun w s t =>
    mayWait_below c _ _ 0 (by fin_cases w <;> fin_cases s <;> rfl) (by
      rcases t with ⟨_ | _, ht⟩
      · exact fun g u h => O₀_pos h
      · exact fun g u h => absurd h (Nat.lt_irrefl 0))

/-! ## The run -/

def finalA (c : Dev nD) (w : Fin cfg0.W) : Buf (Elt F) ((cfg0.win w).arr.view.loc (c : Thread nD τ)) := (dats m ρ 0 c).arrAt w cfg0.N

set_option maxRecDepth 8000 in
/-- From any memory with every semaphore at zero, every weakly fair execution of the four devices' programs terminates, and
    ends with each device's arrays as the pipeline leaves them and every semaphore at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MeshMatmul
-- ==== Proof.Final.lean ====
/-
  What a whole run leaves in memory: every device's result array is `outAt`, its two operands are untouched, and every
  semaphore is at zero.
-/
module

public import proofs.«01_k».proof.Proof.Run
public import Idealize.ShloMosaic.Lib.Pipeline.Value

@[expose] public section

noncomputable section

namespace Cert.MeshMatmul

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ) (ρ : Dev nD → PrngReg)

/-- The one block of the result's window is the whole array. -/
theorem out_emb (i : S512x512.Idx) : (win0_2.rect (0 : Fin 1)).emb i = i := by
  refine funext fun a => Fin.ext ?_
  rw [Rect.emb_apply]
  show 0 * _ + 1 * (i a : ℕ) = i a
  omega

/-- The pipeline writes the body's result over the whole array. -/
theorem final_out (c : Dev nD) : finalA m ρ c (2 : Fin 3) = outAt m c := by
  unfold finalA
  refine Pipeline.Dat.arrAt_eq_of_cover (dats m ρ 0 c) (2 : Fin 3) (outAt m c) (fun t _ => ?_)
    (fun i => ⟨(show Fin cfg0.N from (0 : Fin 1)), flush0_2 _, ?_⟩)
  · obtain rfl : t = (0 : Fin 1) := Subsingleton.elim (α := Fin 1) _ _
    funext j
    rw [View.read_apply]
    exact (congrArg (outAt m c) (out_emb j)).symm
  · have h := View.emb_mem_set (win0_2.blk (0 : Fin 1)).view i
    have e : (win0_2.blk (0 : Fin 1)).view.emb i = i := out_emb i
    rw [e] at h
    exact h

theorem final_a (c : Dev nD) : finalA m ρ c (0 : Fin 3) = m ((c : Thread nD τ).loc main_arg0) :=
  (dats m ρ 0 c).arrAt_in (0 : Fin 3) rfl _

theorem final_b (c : Dev nD) : finalA m ρ c (1 : Fin 3) = m ((c : Thread nD τ).loc main_arg1) :=
  (dats m ρ 0 c).arrAt_in (1 : Fin 3) rfl _

/-- From any memory with every semaphore at zero, every weakly fair execution terminates; each device's result is `outAt`,
    its operands are as they were, and every semaphore is back at zero. -/
theorem run_main : θ_run defs (onTc (τ := τ) (main (F := F))) ⟨m, fun _ => 0, ρ⟩
    (fun r => (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c =>
    ⟨(h.1 c (2 : Fin 3)).trans (final_out m ρ c), (h.1 c (0 : Fin 3)).trans (final_a m ρ c), (h.1 c (1 : Fin 3)).trans (final_b m ρ c)⟩, h.2⟩)
    (run_arrays m ρ)

end Cert.MeshMatmul
-- ==== Proof.Value.lean ====
/-
  The value: read over the extended reals, what every device ends with is the whole product. A device's product over its
  half of the contraction is one of the two halves of the 512-term sum; the device across `x` holds the other half.
-/
module

public import proofs.«01_k».proof.Proof.Tiles
public import Idealize.ShloMosaic.Lib.Pointwise
public import proofs.«01_k».proof.Proof.Gen.ReferenceIdeal.Run

@[expose] public section

noncomputable section

namespace Cert.MeshMatmul

open Cert.KernelIdeal Cert.KernelIdeal.Gen
open Idealize.ShloMosaic Idealize.ShloMosaic.TcCoe
open Idealize.SL.Sem

/-! ## The staged operands are the arrays -/

section Staged

variable {F : FTy → Type} [FloatOps F] (m : (ℓ : Loc nD τ sig) → Buf (Elt F) ℓ)

theorem aStg_eq (c : Dev nD) : aStg m c = m ((c : Thread nD τ).loc main_arg0) := by
  funext j
  unfold aStg
  rw [View.read_apply]
  refine congrArg (m ((c : Thread nD τ).loc main_arg0)) (funext fun a => Fin.ext ?_)
  show ((win0_0.rect (0 : Fin 1)).emb j a : ℕ) = j a
  rw [Rect.emb_apply]
  show 0 * _ + 1 * (j a : ℕ) = j a
  omega

theorem bStg_eq (c : Dev nD) : bStg m c = m ((c : Thread nD τ).loc main_arg1) := by
  funext j
  unfold bStg
  rw [View.read_apply]
  refine congrArg (m ((c : Thread nD τ).loc main_arg1)) (funext fun a => Fin.ext ?_)
  show ((win0_1.rect (0 : Fin 1)).emb j a : ℕ) = j a
  rw [Rect.emb_apply]
  show 0 * _ + 1 * (j a : ℕ) = j a
  omega

end Staged

/-! ## The product, and its two halves -/

section Half

variable (A B : FVec Ideal S512x512 .f32)

/-- The product of the two whole arrays. -/
def whole : FVec Ideal S512x512 .f32 := fun i => ∑ k : Fin 512, A (ix2 (i 0) k) * B (ix2 k (i 1))

/-- The terms of the product whose contraction index is in half `x`. -/
def half (x : Fin 2) (i l : Fin 512) : EReal :=
  ∑ k : Fin 256, A (ix2 i ⟨x.val * 256 + k.val, by omega⟩) * B (ix2 ⟨x.val * 256 + k.val, by omega⟩ l)

theorem whole_halves (i l : Fin 512) : whole A B (ix2 i l) = half A B 0 i l + half A B 1 i l := by
  unfold whole half
  rw [Fin.sum_univ_tiles 2 256 rfl, Fin.sum_univ_two]
  rfl

/-- The host's product is that. -/
theorem host_dot : Host.dotGeneral Cert.ReferenceIdeal.dot_S512x512_S512x512_S512x512_1_0_0_1_n_n none A B = whole A B := by
  funext j
  pointwise [whole]

end Half

/-! ## What the devices compute -/

/-- Device `c`'s coordinate along `x`, and the row of the result its chunk `r` has at `i`. -/
def xc (c : Dev nD) : Fin 2 := ⟨c.val / 2, by have := c.isLt; simp only [nD] at this; omega⟩
def rowOf (c : Dev nD) (r : Fin 8) (i : Fin 32) : Fin 512 := ⟨256 * (c.val % 2) + 32 * r.val + i.val, by omega⟩

/-- The halves of the contraction a device and its peer across `x` hold are the two halves. -/
theorem xc_halves (c : Dev nD) (f : Fin 2 → EReal) : f (xc c) + f (xc (xp c)) = f 0 + f 1 := by
  have h : (xc c = 0 ∧ xc (xp c) = 1) ∨ (xc c = 1 ∧ xc (xp c) = 0) := by revert c; decide
  rcases h with ⟨h, h'⟩ | ⟨h, h'⟩ <;> rw [h, h']
  exact add_comm _ _

variable (m : (ℓ : Loc nD τ sig) → Buf (Elt Ideal) ℓ) (A B : FVec Ideal S512x512 .f32)

/-- Every device's operands are its blocks of the whole arrays. -/
def Blocks : Prop := ∀ c : Dev nD,
  m ((c : Thread nD τ).loc main_arg0) = Layout.blockN ⟨2, ![512, 256]⟩ ⟨2, ![512, 512]⟩ (Layout.meshBlock [2, 2] ![[], [0]] c) A
  ∧ m ((c : Thread nD τ).loc main_arg1) = Layout.blockN ⟨2, ![256, 512]⟩ ⟨2, ![512, 512]⟩ (Layout.meshBlock [2, 2] ![[0], []] c) B

variable {m A B} (H : Blocks m A B)
include H

omit H in
/-- The block of an axis cut along `x`, and of one not cut. -/
theorem mesh_x (c : Dev nD) : Layout.meshLin [2, 2] c.val [0] = (xc c).val := by revert c; decide
omit H in
theorem mesh_none (c : Dev nD) : Layout.meshLin [2, 2] c.val [] = 0 := rfl

theorem a_at (c : Dev nD) (i : Fin 512) (k : Fin 256) : aStg m c (ix2 i k) = A (ix2 i ⟨(xc c).val * 256 + k.val, by omega⟩) := by
  rw [aStg_eq, (H c).1, Layout.blockN_apply]
  refine congrArg A (funext fun a => Fin.ext ?_)
  rw [Layout.TilesN.idx_val]
  fin_cases a
  · show 0 * 512 + i.val = i.val
    omega
  · show Layout.meshLin [2, 2] c.val [0] * 256 + k.val = (xc c).val * 256 + k.val
    rw [mesh_x]

theorem b_at (c : Dev nD) (k : Fin 256) (l : Fin 512) : bStg m c (ix2 k l) = B (ix2 ⟨(xc c).val * 256 + k.val, by omega⟩ l) := by
  rw [bStg_eq, (H c).2, Layout.blockN_apply]
  refine congrArg B (funext fun a => Fin.ext ?_)
  rw [Layout.TilesN.idx_val]
  fin_cases a
  · show Layout.meshLin [2, 2] c.val [0] * 256 + k.val = (xc c).val * 256 + k.val
    rw [mesh_x]
  · show 0 * 512 + l.val = l.val
    omega

omit H in
/-- The rows of the left operand that chunk `r` takes. -/
theorem rows_at (c : Dev nD) (r : Fin 8) (i : Fin 32) (k : Fin 256) : aRows m c r (ix2 i k) = aStg m c (ix2 (rowOf c r i) k) := by
  unfold aRows
  refine congrArg (aStg m c) (funext fun a => Fin.ext ?_)
  rw [Rect.emb_apply]
  have h : (rA c r).off = ![256 * (c.val % 2) + 32 * r.val, 0] := k0_off1_eq c r
  fin_cases a
  · show (rA c r).off (0 : Fin 2) + 1 * i.val = 256 * (c.val % 2) + 32 * r.val + i.val
    rw [h, Nat.one_mul]; rfl
  · show (rA c r).off (1 : Fin 2) + 1 * k.val = k.val
    rw [h, Nat.one_mul]; exact Nat.zero_add _

/-- A device's products are the terms of its half of the contraction, -/
theorem prod_at (c : Dev nD) (r : Fin 8) (i : Fin 32) (l : Fin 512) : prodV m c r (ix2 i l) = half A B (xc c) (rowOf c r i) l := by
  pointwise [prodV, k0_pay1, half]
  exact Finset.sum_congr rfl fun k _ => by rw [rows_at, a_at H, b_at H]

omit H in
/-- The peer across `x` computes the same rows. -/
theorem row_xp (c : Dev nD) (r : Fin 8) (i : Fin 32) : rowOf (xp c) r i = rowOf c r i := by
  have h : (xp c).val % 2 = c.val % 2 := by revert c; decide
  exact Fin.ext (by show 256 * ((xp c).val % 2) + 32 * r.val + i.val = 256 * (c.val % 2) + 32 * r.val + i.val; rw [h])

theorem pair_at (c : Dev nD) (r : Fin 8) (i : Fin 32) (l : Fin 512) :
    prodV m c r (ix2 i l) + prodV m (xp c) r (ix2 i l) = whole A B (ix2 (rowOf c r i) l) := by
  rw [prod_at H, prod_at H, row_xp, whole_halves, ← xc_halves c fun x => half A B x (rowOf c r i) l]

/-- so the sums it stores in its own half of the result are the whole product's, -/
theorem own_at (c : Dev nD) (r : Fin 8) (i : Fin 32) (l : Fin 512) : ownV m c r (ix2 i l) = whole A B (ix2 (rowOf c r i) l) := by
  rw [← pair_at H]
  pointwise [ownV, k0_pay9]

/-- and so are those it stores in the other half. -/
theorem other_at (c : Dev nD) (r : Fin 8) (i : Fin 32) (l : Fin 512) : otherV m c r (ix2 i l) = whole A B (ix2 (rowOf (yp c) r i) l) := by
  rw [← pair_at H]
  pointwise [otherV, sumV, k0_pay25, k0_pay10, k0_pay9]

omit H in
/-- Where block `t` of the result lies. -/
theorem block_emb (c : Dev nD) (t : Fin 2 × Fin 8) (i : Fin 32) (l : Fin 512) :
    (Rect.unit (s := S512x512) (offO c t) S32x512.size (offO_inb c t)).emb (ix2 i l)
      = ix2 (rowOf (if t.1 = 0 then c else yp c) t.2 i) l := by
  have h : ((if t.1 = 0 then c else yp c : Dev nD).val % 2) = (c.val + t.1.val) % 2 := by
    obtain ⟨x, r⟩ := t
    show ((if x = 0 then c else yp c : Dev nD).val % 2) = (c.val + x.val) % 2
    revert c x; decide
  refine funext fun a => Fin.ext ?_
  rw [Rect.emb_apply]
  fin_cases a
  · show 256 * ((c.val + t.1.val) % 2) + 32 * t.2.val + 1 * i.val = 256 * ((if t.1 = 0 then c else yp c : Dev nD).val % 2) + 32 * t.2.val + i.val
    rw [h, Nat.one_mul]
  · show 0 + 1 * l.val = l.val
    omega

/-- Every device ends with the whole product. -/
theorem out_whole (c : Dev nD) : outAt m c = whole A B := by
  funext i
  obtain ⟨j, hj⟩ := (blocks_tiled c).covers i
  generalize blockOf c i = t at hj
  obtain ⟨i', l, rfl⟩ : ∃ (i' : Fin 32) (l : Fin 512), j = ix2 i' l := ⟨j 0, j 1, eq_ix2 j⟩
  rw [← hj]
  unfold outAt
  rw [glue_emb, block_emb]
  unfold blockV
  split
  · exact own_at H c t.2 i' l
  · exact other_at H c t.2 i' l

end Cert.MeshMatmul
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import Idealize.ShloMosaic.Init
public import Idealize.ShloMosaic.Lib.Quiescent
public import proofs.«01_k».proof.Proof.Final
public import proofs.«01_k».proof.Proof.Value

@[expose] public section

noncomputable section

namespace Cert.Proof

open Idealize.ShloMosaic Idealize.SL.Sem Cert.Kernel

/-- The kernel's body table is the idealized kernel's: the two programs have the same text. -/
theorem bodies_eq : @Kernel.defs₀ Bits _ _ = @KernelIdeal.defs₀ Bits _ _ := by
  refine congrArg Defs.onTc ?_
  funext l a
  match l, a with
  | 0, (t, s) => rfl
  | ⟨_ + 1, h⟩, _ => exact absurd h (Nat.not_lt.2 (Nat.le_add_left _ _))

theorem defs_eq : @Kernel.defs Bits _ _ = @KernelIdeal.defs Bits _ _ := congrArg (Pipeline.defs KernelIdeal.pcfgs) bodies_eq

/-- Read at the machine's bits, the kernel terminates, leaves its operands as they were and every semaphore at zero. -/
theorem frame_kernel : Cert.quiescent_Kernel := fun m ρ _ => by
  rw [defs_eq]
  exact (θ_run Cert.KernelIdeal.defs _ _).mono (fun _ h => ⟨fun c => (h.1 c).2, h.2⟩) (Cert.MeshMatmul.run_main (F := Bits) m ρ)

/-- Read over the extended reals, it does the same. -/
theorem frame_ideal : Cert.quiescent_KernelIdeal := fun m ρ _ =>
  (θ_run Cert.KernelIdeal.defs _ _).mono (fun _ h => ⟨fun c => (h.1 c).2, h.2⟩) (Cert.MeshMatmul.run_main (F := Ideal) m ρ)

/-- The reference terminates, leaves its operands as they were and, having no semaphores, leaves them at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- On every device the kernel ends with the reference's product of the two whole arrays. -/
theorem same_product : Cert.algebraic_KernelIdeal_ReferenceIdeal := fun m ρ m' ρ' _ hblk =>
  ⟨Cert.MeshMatmul.whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (Cert.MeshMatmul.out_whole hblk c), (h.1 c).2⟩)
      (Cert.MeshMatmul.run_main (F := Ideal) m ρ),
    (θ_run Cert.ReferenceIdeal.defs _ _).mono (fun _ h => ⟨(h 0).1.trans (Cert.MeshMatmul.host_dot _ _), (h 0).2⟩)
      (Cert.ReferenceIdeal.Value.run m' ρ')⟩

theorem claim : Cert.Claim := ⟨Cert.Kernel.Gen.facts, Cert.KernelIdeal.Gen.facts, Cert.ReferenceIdeal.Gen.facts,
  frame_kernel, frame_ideal, frame_reference, trivial, same_product⟩

end Cert.Proof

end
